-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_disparity [hPre_unit_disparity : Cert.Pre_unit_disparity.Facts] (m : (ℓ : Loc Cert.KernelIdeal.nD Cert.KernelIdeal.τ Cert.KernelIdeal.sig) → Buf (Elt Ideal) ℓ) : Prop :=
  ∀ c : Dev Cert.KernelIdeal.nD,
    (Cert.Pre_unit_disparity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_disparity [hPre_unit_disparity : Cert.Pre_unit_disparity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_disparity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_unit_disparity [hKernelIdeal : Cert.KernelIdeal.Facts] [hPre_unit_disparity : Cert.Pre_unit_disparity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_disparity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_unit_disparity [hReferenceIdeal : Cert.ReferenceIdeal.Facts] [hPre_unit_disparity : Cert.Pre_unit_disparity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_disparity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2_base" .f32 0x3EFFE371#32 (((Real.log (707 / 500)) * (Real.log 2)⁻¹ : ℝ) : EReal)

def algebraic_KernelIdeal_ReferenceIdeal_pre_unit_disparity [hKernelIdeal : Cert.KernelIdeal.Facts] [hReferenceIdeal : Cert.ReferenceIdeal.Facts] [hPre_unit_disparity : Cert.Pre_unit_disparity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_disparity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v441) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_unit_disparity : Cert.Pre_unit_disparity.Facts),
    quiescent_Kernel (hKernel := hKernel)
    ∧ quiescent_KernelIdeal (hKernelIdeal := hKernelIdeal)
    ∧ quiescent_KernelIdeal_pre_unit_disparity (hKernelIdeal := hKernelIdeal) (hPre_unit_disparity := hPre_unit_disparity)
    ∧ quiescent_ReferenceIdeal (hReferenceIdeal := hReferenceIdeal)
    ∧ quiescent_ReferenceIdeal_pre_unit_disparity (hReferenceIdeal := hReferenceIdeal) (hPre_unit_disparity := hPre_unit_disparity)
    ∧ preserves_Kernel_KernelIdeal
    ∧ algebraic_KernelIdeal_ReferenceIdeal_pre_unit_disparity (hKernelIdeal := hKernelIdeal) (hReferenceIdeal := hReferenceIdeal) (hPre_unit_disparity := hPre_unit_disparity)
-- ==== Pre_unit_disparity.lean ====
abbrev S4x3x512x512 : Shape := ⟨4, ![4, 3, 512, 512]⟩
abbrev S4x1x512x512 : Shape := ⟨4, ![4, 1, 512, 512]⟩
abbrev S4x512x512 : Shape := ⟨3, ![4, 512, 512]⟩
abbrev S4x512x511 : Shape := ⟨3, ![4, 512, 511]⟩
abbrev S_ : Shape := ⟨0, ![]⟩
abbrev S4x512x1 : Shape := ⟨3, ![4, 512, 1]⟩

class Facts : Prop where
  shapeCasts_S4x1x512x512_S4x512x512 : S4x1x512x512.ShapeCasts S4x512x512
  slices_S4x512x512_S4x512x511_0_0_1 : S4x512x512.Slices ![0, 0, 1] S4x512x511
  bcast_S_S4x512x1 : S_.BroadcastsInDim S4x512x1 (![] : Fin 0 → Fin S4x512x1.rank)
  concatenates_S4x512x511_S4x512x1_S4x512x512_d2 : Shape.Concatenates [S4x512x511, S4x512x1] S4x512x512 2
  bcast_S_S4x512x512 : S_.BroadcastsInDim S4x512x512 (![] : Fin 0 → Fin S4x512x512.rank)
  reducesTo_S4x1x512x512_S_d0_1_2_3 : S4x1x512x512.ReducesTo [0, 1, 2, 3] S_
  h_S_ : 0 < S_.numel

variable [Facts]

def fn_part1 {F : FTy → Type} [FloatOps F] (main_v12 : IVec S4x512x512 1) (main_v14 : IVec S4x512x512 1) (main_v16 : IVec S4x512x512 1) : IVec S4x512x512 1 :=
  let main_v17 : IVec S4x512x512 1 := andi main_v14 main_v16
  let main_v18 : IVec S4x512x512 1 := andi main_v17 main_v12
  main_v18

def fn {F : FTy → Type} [FloatOps F] (main_arg0 : FVec F S4x3x512x512 .f32) (main_arg1 : FVec F S4x1x512x512 .f32) : IVec S4x512x512 1 :=
  let main_v0 : FVec F S4x512x512 .f32 := shapeCast S4x512x512 main_arg1 shapeCasts_S4x1x512x512_S4x512x512
  let main_v1 : FVec F S4x512x511 .f32 := (extractStridedSlice S4x512x511 ![0, 0, 1] · slices_S4x512x512_S4x512x511_0_0_1) main_v0
  let main_cst : FVec F S_ .f32 := constant S_ .f32 0x00000000#32
  let main_v2 : FVec F S4x512x1 .f32 := broadcastInDim S4x512x1 ![] bcast_S_S4x512x1 main_cst
  let main_v3 : FVec F S4x512x512 .f32 := (fun a b => concatenate S4x512x512 2 [⟨S4x512x511, a⟩, ⟨S4x512x1, b⟩] concatenates_S4x512x511_S4x512x1_S4x512x512_d2) main_v1 main_v2
  let main_cst_0 : FVec F S_ .f32 := constant S_ .f32 0x3F800000#32
  let main_v4 : FVec F S4x512x512 .f32 := broadcastInDim S4x512x512 ![] bcast_S_S4x512x512 main_cst_0
  let main_v5 : FVec F S4x512x512 .f32 := subf main_v4 main_v0
  let main_v6 : FVec F S4x512x512 .f32 := addf main_v5 main_v3
  let main_cst_1 : FVec F S_ .f32 := constant S_ .f32 0x358637BD#32
  let main_v7 : FVec F S4x512x512 .f32 := broadcastInDim S4x512x512 ![] bcast_S_S4x512x512 main_cst_1
  let main_v8 : IVec S4x512x512 1 := cmpf .oge main_v6 main_v7
  let main_cst_2 : FVec F S_ .f32 := constant S_ .f32 0x7F800000#32
  let main_v9 : FVec F S_ .f32 := (fun x v => Host.reduce FloatOps.minimumf x v reducesTo_S4x1x512x512_S_d0_1_2_3 h_S_) main_arg1 main_cst_2
  let main_cst_3 : FVec F S_ .f32 := constant S_ .f32 0x00000000#32
  let main_v10 : IVec S_ 1 := cmpf .oeq main_v9 main_cst_3
  let main_v11 : IVec S4x512x512 1 := broadcastInDim S4x512x512 ![] bcast_S_S4x512x512 main_v10
  let main_v12 : IVec S4x512x512 1 := ori main_v8 main_v11
  let main_cst_4 : FVec F S_ .f32 := constant S_ .f32 0x00000000#32
  let main_v13 : FVec F S4x512x512 .f32 := broadcastInDim S4x512x512 ![] bcast_S_S4x512x512 main_cst_4
  let main_v14 : IVec S4x512x512 1 := cmpf .oge main_v0 main_v13
  let main_cst_5 : FVec F S_ .f32 := constant S_ .f32 0x3F800000#32
  let main_v15 : FVec F S4x512x512 .f32 := broadcastInDim S4x512x512 ![] bcast_S_S4x512x512 main_cst_5
  let main_v16 : IVec S4x512x512 1 := cmpf .ole main_v0 main_v15
  fn_part1 (F := F) main_v12 main_v14 main_v16
-- ==== Kernel.lean ====
abbrev S4x3x512x512 : Shape := ⟨4, ![4, 3, 512, 512]⟩
abbrev S4x1x512x512 : Shape := ⟨4, ![4, 1, 512, 512]⟩
abbrev S2x3x512x512 : Shape := ⟨4, ![2, 3, 512, 512]⟩
abbrev S2x1x512x512 : Shape := ⟨4, ![2, 1, 512, 512]⟩
abbrev S2x512x512 : Shape := ⟨3, ![2, 512, 512]⟩
abbrev S2x512x511 : Shape := ⟨3, ![2, 512, 511]⟩
abbrev S2x512x1 : Shape := ⟨3, ![2, 512, 1]⟩
abbrev S2x3x512x511 : Shape := ⟨4, ![2, 3, 512, 511]⟩
abbrev S2x3x512x1 : Shape := ⟨4, ![2, 3, 512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x3x512x512, .f32⟩
  | .hbm, ⟨1, _⟩ => ⟨S4x1x512x512, .f32⟩
  | .hbm, ⟨2, _⟩ => ⟨S4x3x512x512, .f32⟩
  | .local _ .vmem, ⟨0, _⟩ => ⟨S2x3x512x512, .f32⟩
  | .local _ .vmem, ⟨1, _⟩ => ⟨S2x3x512x512, .f32⟩
  | .local _ .vmem, ⟨2, _⟩ => ⟨S2x1x512x512, .f32⟩
  | .local _ .vmem, ⟨3, _⟩ => ⟨S2x1x512x512, .f32⟩
  | .local _ .vmem, ⟨4, _⟩ => ⟨S2x3x512x512, .f32⟩
  | .local _ .vmem, ⟨5, _⟩ => ⟨S2x3x512x512, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "log2_base" => some (((Real.log (707 / 500)) * (Real.log 2)⁻¹ : ℝ) : EReal)
  | _ => none
-- ==== ReferenceIdeal.lean ====
abbrev S4x3x512x512 : Shape := ⟨4, ![4, 3, 512, 512]⟩
abbrev S4x1x512x512 : Shape := ⟨4, ![4, 1, 512, 512]⟩
abbrev S_ : Shape := ⟨0, ![]⟩
abbrev S4x512x512 : Shape := ⟨3, ![4, 512, 512]⟩
abbrev S4x512x512x1 : Shape := ⟨4, ![4, 512, 512, 1]⟩
abbrev S4x512x512x2 : Shape := ⟨4, ![4, 512, 512, 2]⟩
abbrev S512 : Shape := ⟨1, ![512]⟩
abbrev S512x512 : Shape := ⟨2, ![512, 512]⟩
abbrev S1x512x512 : Shape := ⟨3, ![1, 512, 512]⟩
abbrev S4x512x512x3 : Shape := ⟨4, ![4, 512, 512, 3]⟩
abbrev S1048576x3 : Shape := ⟨2, ![1048576, 3]⟩
abbrev S4 : Shape := ⟨1, ![4]⟩
abbrev S4x1 : Shape := ⟨2, ![4, 1]⟩
abbrev S1048576 : Shape := ⟨1, ![1048576]⟩
abbrev S4x262144 : Shape := ⟨2, ![4, 262144]⟩
abbrev S1048576x1 : Shape := ⟨2, ![1048576, 1]⟩
abbrev S4x262144x3 : Shape := ⟨3, ![4, 262144, 3]⟩
abbrev S4x3x262144 : Shape := ⟨3, ![4, 3, 262144]⟩
abbrev S4x262144x1 : Shape := ⟨3, ![4, 262144, 1]⟩
abbrev S4x1x262144 : Shape := ⟨3, ![4, 1, 262144]⟩

abbrev nBuf : Space → Nat
  | .hbm => 643
  | .vmem => 0
  | .smem => 0
  | _ => 0

abbrev hbmTy0_0 (i : Nat) : BufTy := match i % 128 with
  | 0 => ⟨S4x3x512x512, .f32⟩
  | 1 => ⟨S4x1x512x512, .f32⟩
  | 2 => ⟨S_, .f32⟩
  | 3 => ⟨S_, .f32⟩
  | 4 => ⟨S4x1x512x512, .f32⟩
  | 5 => ⟨S4x1x512x512, .f32⟩
  | 6 => ⟨S_, .f32⟩
  | 7 => ⟨S_, .f32⟩
  | 8 => ⟨S_, .f32⟩
  | 9 => ⟨S4x1x512x512, .f32⟩
  | 10 => ⟨S4x1x512x512, .f32⟩
  | 11 => ⟨S4x512x512, .f32⟩
  | 12 => ⟨S4x512x512, .f32⟩
  | 13 => ⟨S_, .f32⟩
  | 14 => ⟨S4x512x512, .f32⟩
  | 15 => ⟨S4x512x512x1, .f32⟩
  | 16 => ⟨S4x512x512x1, .f32⟩
  | 17 => ⟨S4x512x512x2, .f32⟩
  | 18 => ⟨S4x3x512x512, .f32⟩
  | 19 => ⟨S4x3x512x512, .f32⟩
  | 20 => ⟨S512, .f32⟩
  | 21 => ⟨S512, .f32⟩
  | 22 => ⟨S512x512, .f32⟩
  | 23 => ⟨S512x512, .f32⟩
  | 24 => ⟨S1x512x512, .f32⟩
  | 25 => ⟨S4x512x512x1, .f32⟩
  | 26 => ⟨S4x512x512, .f32⟩
  | 27 => ⟨S4x512x512, .f32⟩
  | 28 => ⟨S4x512x512, .f32⟩
  | 29 => ⟨S1x512x512, .f32⟩
  | 30 => ⟨S4x512x512x1, .f32⟩
  | 31 => ⟨S4x512x512, .f32⟩
  | 32 => ⟨S4x512x512, .f32⟩
  | 33 => ⟨S4x512x512, .f32⟩
  | 34 => ⟨S4x512x512, .f32⟩
  | 35 => ⟨S4x512x512, .i32⟩
  | 36 => ⟨S_, .i32⟩
  | 37 => ⟨S4x512x512, .i32⟩
  | 38 => ⟨S4x512x512, .i32⟩
  | 39 => ⟨S4x512x512, .f32⟩
  | 40 => ⟨S4x512x512, .i32⟩
  | 41 => ⟨S_, .i32⟩
  | 42 => ⟨S4x512x512, .i32⟩
  | 43 => ⟨S4x512x512, .i32⟩
  | 44 => ⟨S4x512x512, .f32⟩
  | 45 => ⟨S4x512x512, .f32⟩
  | 46 => ⟨S4x512x512, .f32⟩
  | 47 => ⟨S4x512x512, .f32⟩
  | 48 => ⟨S4x512x512, .f32⟩
  | 49 => ⟨S4x512x512, .f32⟩
  | 50 => ⟨S4x512x512, .f32⟩
  | 51 => ⟨S4x512x512, .f32⟩
  | 52 => ⟨S4x512x512, .f32⟩
  | 53 => ⟨S4x512x512, .f32⟩
  | 54 => ⟨S4x512x512, .f32⟩
  | 55 => ⟨S4x512x512, .f32⟩
  | 56 => ⟨S4x512x512, .f32⟩
  | 57 => ⟨S4x512x512, .f32⟩
  | 58 => ⟨S4x512x512, .f32⟩
  | 59 => ⟨S4x512x512, .f32⟩
  | 60 => ⟨S4x512x512, .f32⟩
  | 61 => ⟨S4x512x512, .f32⟩
  | 62 => ⟨S4x512x512, .f32⟩
  | 63 => ⟨S4x512x512, .f32⟩
  | 64 => ⟨S4x512x512x3, .f32⟩
  | 65 => ⟨S1048576x3, .f32⟩
  | 66 => ⟨S4, .i32⟩
  | 67 => ⟨S_, .i32⟩
  | 68 => ⟨S4, .i32⟩
  | 69 => ⟨S4, .i32⟩
  | 70 => ⟨S4x1, .i32⟩
  | 71 => ⟨S_, .f32⟩
  | 72 => ⟨S1048576x3, .f32⟩
  | 73 => ⟨S_, .f32⟩
  | 74 => ⟨S1048576, .f32⟩
  | 75 => ⟨S_, .i32⟩
  | 76 => ⟨S4x512x512, .i32⟩
  | 77 => ⟨S4x512x512, .i1⟩
  | 78 => ⟨S_, .i32⟩
  | 79 => ⟨S4x512x512, .i32⟩
  | 80 => ⟨S4x512x512, .i1⟩
  | 81 => ⟨S4x512x512, .i1⟩
  | 82 => ⟨S_, .i32⟩
  | 83 => ⟨S4x512x512, .i32⟩
  | 84 => ⟨S4x512x512, .i1⟩
  | 85 => ⟨S4x512x512, .i1⟩
  | 86 => ⟨S_, .i32⟩
  | 87 => ⟨S4x512x512, .i32⟩
  | 88 => ⟨S4x512x512, .i1⟩
  | 89 => ⟨S4x512x512, .i1⟩
  | 90 => ⟨S_, .i32⟩
  | 91 => ⟨S_, .i32⟩
  | 92 => ⟨S_, .i32⟩
  | 93 => ⟨S4x512x512, .i32⟩
  | 94 => ⟨S4x512x512, .i32⟩
  | 95 => ⟨S_, .i32⟩
  | 96 => ⟨S4x512x512, .i32⟩
  | 97 => ⟨S4x512x512, .i32⟩
  | 98 => ⟨S_, .i32⟩
  | 99 => ⟨S_, .i32⟩
  | 100 => ⟨S_, .i32⟩
  | 101 => ⟨S4x512x512, .i32⟩
  | 102 => ⟨S4x512x512, .i32⟩
  | 103 => ⟨S_, .i32⟩
  | 104 => ⟨S4x512x512, .i32⟩
  | 105 => ⟨S4x512x512, .i32⟩
  | 106 => ⟨S_, .i32⟩
  | 107 => ⟨S4x512x512, .i32⟩
  | 108 => ⟨S4x512x512, .i32⟩
  | 109 => ⟨S4x512x512, .i32⟩
  | 110 => ⟨S4x262144, .i32⟩
  | 111 => ⟨S4x262144, .i32⟩
  | 112 => ⟨S4x262144, .i32⟩
  | 113 => ⟨S1048576, .i32⟩
  | 114 => ⟨S4x512x512, .f32⟩
  | 115 => ⟨S4x512x512, .f32⟩
  | 116 => ⟨S1048576, .f32⟩
  | 117 => ⟨S1048576x1, .f32⟩
  | 118 => ⟨S1048576x3, .f32⟩
  | 119 => ⟨S1048576x3, .f32⟩
  | 120 => ⟨S_, .i32⟩
  | 121 => ⟨S1048576, .i32⟩
  | 122 => ⟨S1048576, .i1⟩
  | 123 => ⟨S_, .i32⟩
  | 124 => ⟨S1048576, .i32⟩
  | 125 => ⟨S1048576, .i32⟩
  | 126 => ⟨S1048576, .i32⟩
  | 127 => ⟨S1048576x1, .i32⟩
  | _ => ⟨S4x3x512x512, .f32⟩

abbrev hbmTy0_1 (i : Nat) : BufTy := match i % 128 with
  | 0 => ⟨S1048576x3, .f32⟩
  | 1 => ⟨S_, .i32⟩
  | 2 => ⟨S1048576, .i32⟩
  | 3 => ⟨S1048576, .i1⟩
  | 4 => ⟨S_, .i32⟩
  | 5 => ⟨S1048576, .i32⟩
  | 6 => ⟨S1048576, .i32⟩
  | 7 => ⟨S1048576, .i32⟩
  | 8 => ⟨S1048576x1, .i32⟩
  | 9 => ⟨S1048576, .f32⟩
  | 10 => ⟨S_, .i32⟩
  | 11 => ⟨S4x512x512, .i32⟩
  | 12 => ⟨S4x512x512, .i1⟩
  | 13 => ⟨S_, .i32⟩
  | 14 => ⟨S4x512x512, .i32⟩
  | 15 => ⟨S4x512x512, .i1⟩
  | 16 => ⟨S4x512x512, .i1⟩
  | 17 => ⟨S_, .i32⟩
  | 18 => ⟨S4x512x512, .i32⟩
  | 19 => ⟨S4x512x512, .i1⟩
  | 20 => ⟨S4x512x512, .i1⟩
  | 21 => ⟨S_, .i32⟩
  | 22 => ⟨S4x512x512, .i32⟩
  | 23 => ⟨S4x512x512, .i1⟩
  | 24 => ⟨S4x512x512, .i1⟩
  | 25 => ⟨S_, .i32⟩
  | 26 => ⟨S_, .i32⟩
  | 27 => ⟨S_, .i32⟩
  | 28 => ⟨S4x512x512, .i32⟩
  | 29 => ⟨S4x512x512, .i32⟩
  | 30 => ⟨S_, .i32⟩
  | 31 => ⟨S4x512x512, .i32⟩
  | 32 => ⟨S4x512x512, .i32⟩
  | 33 => ⟨S_, .i32⟩
  | 34 => ⟨S_, .i32⟩
  | 35 => ⟨S_, .i32⟩
  | 36 => ⟨S4x512x512, .i32⟩
  | 37 => ⟨S4x512x512, .i32⟩
  | 38 => ⟨S_, .i32⟩
  | 39 => ⟨S4x512x512, .i32⟩
  | 40 => ⟨S4x512x512, .i32⟩
  | 41 => ⟨S_, .i32⟩
  | 42 => ⟨S4x512x512, .i32⟩
  | 43 => ⟨S4x512x512, .i32⟩
  | 44 => ⟨S4x512x512, .i32⟩
  | 45 => ⟨S4x262144, .i32⟩
  | 46 => ⟨S4x262144, .i32⟩
  | 47 => ⟨S4x262144, .i32⟩
  | 48 => ⟨S1048576, .i32⟩
  | 49 => ⟨S4x512x512, .f32⟩
  | 50 => ⟨S4x512x512, .f32⟩
  | 51 => ⟨S1048576, .f32⟩
  | 52 => ⟨S1048576x1, .f32⟩
  | 53 => ⟨S1048576x3, .f32⟩
  | 54 => ⟨S1048576x3, .f32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S1048576x1, .i32⟩
  | 63 => ⟨S1048576x3, .f32⟩
  | 64 => ⟨S_, .i32⟩
  | 65 => ⟨S1048576, .i32⟩
  | 66 => ⟨S1048576, .i1⟩
  | 67 => ⟨S_, .i32⟩
  | 68 => ⟨S1048576, .i32⟩
  | 69 => ⟨S1048576, .i32⟩
  | 70 => ⟨S1048576, .i32⟩
  | 71 => ⟨S1048576x1, .i32⟩
  | 72 => ⟨S1048576, .f32⟩
  | 73 => ⟨S_, .i32⟩
  | 74 => ⟨S4x512x512, .i32⟩
  | 75 => ⟨S4x512x512, .i1⟩
  | 76 => ⟨S_, .i32⟩
  | 77 => ⟨S4x512x512, .i32⟩
  | 78 => ⟨S4x512x512, .i1⟩
  | 79 => ⟨S4x512x512, .i1⟩
  | 80 => ⟨S_, .i32⟩
  | 81 => ⟨S4x512x512, .i32⟩
  | 82 => ⟨S4x512x512, .i1⟩
  | 83 => ⟨S4x512x512, .i1⟩
  | 84 => ⟨S_, .i32⟩
  | 85 => ⟨S4x512x512, .i32⟩
  | 86 => ⟨S4x512x512, .i1⟩
  | 87 => ⟨S4x512x512, .i1⟩
  | 88 => ⟨S_, .i32⟩
  | 89 => ⟨S_, .i32⟩
  | 90 => ⟨S_, .i32⟩
  | 91 => ⟨S4x512x512, .i32⟩
  | 92 => ⟨S4x512x512, .i32⟩
  | 93 => ⟨S_, .i32⟩
  | 94 => ⟨S4x512x512, .i32⟩
  | 95 => ⟨S4x512x512, .i32⟩
  | 96 => ⟨S_, .i32⟩
  | 97 => ⟨S_, .i32⟩
  | 98 => ⟨S_, .i32⟩
  | 99 => ⟨S4x512x512, .i32⟩
  | 100 => ⟨S4x512x512, .i32⟩
  | 101 => ⟨S_, .i32⟩
  | 102 => ⟨S4x512x512, .i32⟩
  | 103 => ⟨S4x512x512, .i32⟩
  | 104 => ⟨S_, .i32⟩
  | 105 => ⟨S4x512x512, .i32⟩
  | 106 => ⟨S4x512x512, .i32⟩
  | 107 => ⟨S4x512x512, .i32⟩
  | 108 => ⟨S4x262144, .i32⟩
  | 109 => ⟨S4x262144, .i32⟩
  | 110 => ⟨S4x262144, .i32⟩
  | 111 => ⟨S1048576, .i32⟩
  | 112 => ⟨S4x512x512, .f32⟩
  | 113 => ⟨S4x512x512, .f32⟩
  | 114 => ⟨S1048576, .f32⟩
  | 115 => ⟨S1048576x1, .f32⟩
  | 116 => ⟨S1048576x3, .f32⟩
  | 117 => ⟨S1048576x3, .f32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S1048576x1, .i32⟩
  | 126 => ⟨S1048576x3, .f32⟩
  | 127 => ⟨S_, .i32⟩
  | _ => ⟨S4x3x512x512, .f32⟩

abbrev hbmTy0_2 (i : Nat) : BufTy := match i % 128 with
  | 0 => ⟨S1048576, .i32⟩
  | 1 => ⟨S1048576, .i1⟩
  | 2 => ⟨S_, .i32⟩
  | 3 => ⟨S1048576, .i32⟩
  | 4 => ⟨S1048576, .i32⟩
  | 5 => ⟨S1048576, .i32⟩
  | 6 => ⟨S1048576x1, .i32⟩
  | 7 => ⟨S1048576, .f32⟩
  | 8 => ⟨S_, .i32⟩
  | 9 => ⟨S4x512x512, .i32⟩
  | 10 => ⟨S4x512x512, .i1⟩
  | 11 => ⟨S_, .i32⟩
  | 12 => ⟨S4x512x512, .i32⟩
  | 13 => ⟨S4x512x512, .i1⟩
  | 14 => ⟨S4x512x512, .i1⟩
  | 15 => ⟨S_, .i32⟩
  | 16 => ⟨S4x512x512, .i32⟩
  | 17 => ⟨S4x512x512, .i1⟩
  | 18 => ⟨S4x512x512, .i1⟩
  | 19 => ⟨S_, .i32⟩
  | 20 => ⟨S4x512x512, .i32⟩
  | 21 => ⟨S4x512x512, .i1⟩
  | 22 => ⟨S4x512x512, .i1⟩
  | 23 => ⟨S_, .i32⟩
  | 24 => ⟨S_, .i32⟩
  | 25 => ⟨S_, .i32⟩
  | 26 => ⟨S4x512x512, .i32⟩
  | 27 => ⟨S4x512x512, .i32⟩
  | 28 => ⟨S_, .i32⟩
  | 29 => ⟨S4x512x512, .i32⟩
  | 30 => ⟨S4x512x512, .i32⟩
  | 31 => ⟨S_, .i32⟩
  | 32 => ⟨S_, .i32⟩
  | 33 => ⟨S_, .i32⟩
  | 34 => ⟨S4x512x512, .i32⟩
  | 35 => ⟨S4x512x512, .i32⟩
  | 36 => ⟨S_, .i32⟩
  | 37 => ⟨S4x512x512, .i32⟩
  | 38 => ⟨S4x512x512, .i32⟩
  | 39 => ⟨S_, .i32⟩
  | 40 => ⟨S4x512x512, .i32⟩
  | 41 => ⟨S4x512x512, .i32⟩
  | 42 => ⟨S4x512x512, .i32⟩
  | 43 => ⟨S4x262144, .i32⟩
  | 44 => ⟨S4x262144, .i32⟩
  | 45 => ⟨S4x262144, .i32⟩
  | 46 => ⟨S1048576, .i32⟩
  | 47 => ⟨S4x512x512, .f32⟩
  | 48 => ⟨S4x512x512, .f32⟩
  | 49 => ⟨S1048576, .f32⟩
  | 50 => ⟨S1048576x1, .f32⟩
  | 51 => ⟨S1048576x3, .f32⟩
  | 52 => ⟨S1048576x3, .f32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S1048576x1, .i32⟩
  | 61 => ⟨S1048576x3, .f32⟩
  | 62 => ⟨S_, .i32⟩
  | 63 => ⟨S1048576, .i32⟩
  | 64 => ⟨S1048576, .i1⟩
  | 65 => ⟨S_, .i32⟩
  | 66 => ⟨S1048576, .i32⟩
  | 67 => ⟨S1048576, .i32⟩
  | 68 => ⟨S1048576, .i32⟩
  | 69 => ⟨S1048576x1, .i32⟩
  | 70 => ⟨S1048576, .f32⟩
  | 71 => ⟨S4x262144x3, .f32⟩
  | 72 => ⟨S4x3x262144, .f32⟩
  | 73 => ⟨S4x3x512x512, .f32⟩
  | 74 => ⟨S4x1x512x512, .f32⟩
  | 75 => ⟨S512, .f32⟩
  | 76 => ⟨S512, .f32⟩
  | 77 => ⟨S512x512, .f32⟩
  | 78 => ⟨S512x512, .f32⟩
  | 79 => ⟨S1x512x512, .f32⟩
  | 80 => ⟨S4x512x512x1, .f32⟩
  | 81 => ⟨S4x512x512, .f32⟩
  | 82 => ⟨S4x512x512, .f32⟩
  | 83 => ⟨S4x512x512, .f32⟩
  | 84 => ⟨S1x512x512, .f32⟩
  | 85 => ⟨S4x512x512x1, .f32⟩
  | 86 => ⟨S4x512x512, .f32⟩
  | 87 => ⟨S4x512x512, .f32⟩
  | 88 => ⟨S4x512x512, .f32⟩
  | 89 => ⟨S4x512x512, .f32⟩
  | 90 => ⟨S4x512x512, .i32⟩
  | 91 => ⟨S_, .i32⟩
  | 92 => ⟨S4x512x512, .i32⟩
  | 93 => ⟨S4x512x512, .i32⟩
  | 94 => ⟨S4x512x512, .f32⟩
  | 95 => ⟨S4x512x512, .i32⟩
  | 96 => ⟨S_, .i32⟩
  | 97 => ⟨S4x512x512, .i32⟩
  | 98 => ⟨S4x512x512, .i32⟩
  | 99 => ⟨S4x512x512, .f32⟩
  | 100 => ⟨S4x512x512, .f32⟩
  | 101 => ⟨S4x512x512, .f32⟩
  | 102 => ⟨S4x512x512, .f32⟩
  | 103 => ⟨S4x512x512, .f32⟩
  | 104 => ⟨S4x512x512, .f32⟩
  | 105 => ⟨S4x512x512, .f32⟩
  | 106 => ⟨S4x512x512, .f32⟩
  | 107 => ⟨S4x512x512, .f32⟩
  | 108 => ⟨S4x512x512, .f32⟩
  | 109 => ⟨S4x512x512, .f32⟩
  | 110 => ⟨S4x512x512, .f32⟩
  | 111 => ⟨S4x512x512, .f32⟩
  | 112 => ⟨S4x512x512, .f32⟩
  | 113 => ⟨S4x512x512, .f32⟩
  | 114 => ⟨S4x512x512, .f32⟩
  | 115 => ⟨S4x512x512, .f32⟩
  | 116 => ⟨S4x512x512, .f32⟩
  | 117 => ⟨S4x512x512, .f32⟩
  | 118 => ⟨S4x512x512, .f32⟩
  | 119 => ⟨S4x512x512x1, .f32⟩
  | 120 => ⟨S1048576x1, .f32⟩
  | 121 => ⟨S4, .i32⟩
  | 122 => ⟨S_, .i32⟩
  | 123 => ⟨S4, .i32⟩
  | 124 => ⟨S4, .i32⟩
  | 125 => ⟨S4x1, .i32⟩
  | 126 => ⟨S_, .f32⟩
  | 127 => ⟨S1048576x1, .f32⟩
  | _ => ⟨S4x3x512x512, .f32⟩

abbrev hbmTy0_3 (i : Nat) : BufTy := match i % 128 with
  | 0 => ⟨S_, .f32⟩
  | 1 => ⟨S1048576, .f32⟩
  | 2 => ⟨S_, .i32⟩
  | 3 => ⟨S4x512x512, .i32⟩
  | 4 => ⟨S4x512x512, .i1⟩
  | 5 => ⟨S_, .i32⟩
  | 6 => ⟨S4x512x512, .i32⟩
  | 7 => ⟨S4x512x512, .i1⟩
  | 8 => ⟨S4x512x512, .i1⟩
  | 9 => ⟨S_, .i32⟩
  | 10 => ⟨S4x512x512, .i32⟩
  | 11 => ⟨S4x512x512, .i1⟩
  | 12 => ⟨S4x512x512, .i1⟩
  | 13 => ⟨S_, .i32⟩
  | 14 => ⟨S4x512x512, .i32⟩
  | 15 => ⟨S4x512x512, .i1⟩
  | 16 => ⟨S4x512x512, .i1⟩
  | 17 => ⟨S_, .i32⟩
  | 18 => ⟨S_, .i32⟩
  | 19 => ⟨S_, .i32⟩
  | 20 => ⟨S4x512x512, .i32⟩
  | 21 => ⟨S4x512x512, .i32⟩
  | 22 => ⟨S_, .i32⟩
  | 23 => ⟨S4x512x512, .i32⟩
  | 24 => ⟨S4x512x512, .i32⟩
  | 25 => ⟨S_, .i32⟩
  | 26 => ⟨S_, .i32⟩
  | 27 => ⟨S_, .i32⟩
  | 28 => ⟨S4x512x512, .i32⟩
  | 29 => ⟨S4x512x512, .i32⟩
  | 30 => ⟨S_, .i32⟩
  | 31 => ⟨S4x512x512, .i32⟩
  | 32 => ⟨S4x512x512, .i32⟩
  | 33 => ⟨S_, .i32⟩
  | 34 => ⟨S4x512x512, .i32⟩
  | 35 => ⟨S4x512x512, .i32⟩
  | 36 => ⟨S4x512x512, .i32⟩
  | 37 => ⟨S4x262144, .i32⟩
  | 38 => ⟨S4x262144, .i32⟩
  | 39 => ⟨S4x262144, .i32⟩
  | 40 => ⟨S1048576, .i32⟩
  | 41 => ⟨S4x512x512, .f32⟩
  | 42 => ⟨S4x512x512, .f32⟩
  | 43 => ⟨S1048576, .f32⟩
  | 44 => ⟨S1048576x1, .f32⟩
  | 45 => ⟨S1048576x1, .f32⟩
  | 46 => ⟨S_, .i32⟩
  | 47 => ⟨S1048576, .i32⟩
  | 48 => ⟨S1048576, .i1⟩
  | 49 => ⟨S_, .i32⟩
  | 50 => ⟨S1048576, .i32⟩
  | 51 => ⟨S1048576, .i32⟩
  | 52 => ⟨S1048576, .i32⟩
  | 53 => ⟨S1048576x1, .i32⟩
  | 54 => ⟨S1048576x1, .f32⟩
  | 55 => ⟨S_, .i32⟩
  | 56 => ⟨S1048576, .i32⟩
  | 57 => ⟨S1048576, .i1⟩
  | 58 => ⟨S_, .i32⟩
  | 59 => ⟨S1048576, .i32⟩
  | 60 => ⟨S1048576, .i32⟩
  | 61 => ⟨S1048576, .i32⟩
  | 62 => ⟨S1048576x1, .i32⟩
  | 63 => ⟨S1048576, .f32⟩
  | 64 => ⟨S_, .i32⟩
  | 65 => ⟨S4x512x512, .i32⟩
  | 66 => ⟨S4x512x512, .i1⟩
  | 67 => ⟨S_, .i32⟩
  | 68 => ⟨S4x512x512, .i32⟩
  | 69 => ⟨S4x512x512, .i1⟩
  | 70 => ⟨S4x512x512, .i1⟩
  | 71 => ⟨S_, .i32⟩
  | 72 => ⟨S4x512x512, .i32⟩
  | 73 => ⟨S4x512x512, .i1⟩
  | 74 => ⟨S4x512x512, .i1⟩
  | 75 => ⟨S_, .i32⟩
  | 76 => ⟨S4x512x512, .i32⟩
  | 77 => ⟨S4x512x512, .i1⟩
  | 78 => ⟨S4x512x512, .i1⟩
  | 79 => ⟨S_, .i32⟩
  | 80 => ⟨S_, .i32⟩
  | 81 => ⟨S_, .i32⟩
  | 82 => ⟨S4x512x512, .i32⟩
  | 83 => ⟨S4x512x512, .i32⟩
  | 84 => ⟨S_, .i32⟩
  | 85 => ⟨S4x512x512, .i32⟩
  | 86 => ⟨S4x512x512, .i32⟩
  | 87 => ⟨S_, .i32⟩
  | 88 => ⟨S_, .i32⟩
  | 89 => ⟨S_, .i32⟩
  | 90 => ⟨S4x512x512, .i32⟩
  | 91 => ⟨S4x512x512, .i32⟩
  | 92 => ⟨S_, .i32⟩
  | 93 => ⟨S4x512x512, .i32⟩
  | 94 => ⟨S4x512x512, .i32⟩
  | 95 => ⟨S_, .i32⟩
  | 96 => ⟨S4x512x512, .i32⟩
  | 97 => ⟨S4x512x512, .i32⟩
  | 98 => ⟨S4x512x512, .i32⟩
  | 99 => ⟨S4x262144, .i32⟩
  | 100 => ⟨S4x262144, .i32⟩
  | 101 => ⟨S4x262144, .i32⟩
  | 102 => ⟨S1048576, .i32⟩
  | 103 => ⟨S4x512x512, .f32⟩
  | 104 => ⟨S4x512x512, .f32⟩
  | 105 => ⟨S1048576, .f32⟩
  | 106 => ⟨S1048576x1, .f32⟩
  | 107 => ⟨S1048576x1, .f32⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S1048576x1, .i32⟩
  | 116 => ⟨S1048576x1, .f32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S1048576x1, .i32⟩
  | 125 => ⟨S1048576, .f32⟩
  | 126 => ⟨S_, .i32⟩
  | 127 => ⟨S4x512x512, .i32⟩
  | _ => ⟨S4x3x512x512, .f32⟩

abbrev hbmTy0_4 (i : Nat) : BufTy := match i % 128 with
  | 0 => ⟨S4x512x512, .i1⟩
  | 1 => ⟨S_, .i32⟩
  | 2 => ⟨S4x512x512, .i32⟩
  | 3 => ⟨S4x512x512, .i1⟩
  | 4 => ⟨S4x512x512, .i1⟩
  | 5 => ⟨S_, .i32⟩
  | 6 => ⟨S4x512x512, .i32⟩
  | 7 => ⟨S4x512x512, .i1⟩
  | 8 => ⟨S4x512x512, .i1⟩
  | 9 => ⟨S_, .i32⟩
  | 10 => ⟨S4x512x512, .i32⟩
  | 11 => ⟨S4x512x512, .i1⟩
  | 12 => ⟨S4x512x512, .i1⟩
  | 13 => ⟨S_, .i32⟩
  | 14 => ⟨S_, .i32⟩
  | 15 => ⟨S_, .i32⟩
  | 16 => ⟨S4x512x512, .i32⟩
  | 17 => ⟨S4x512x512, .i32⟩
  | 18 => ⟨S_, .i32⟩
  | 19 => ⟨S4x512x512, .i32⟩
  | 20 => ⟨S4x512x512, .i32⟩
  | 21 => ⟨S_, .i32⟩
  | 22 => ⟨S_, .i32⟩
  | 23 => ⟨S_, .i32⟩
  | 24 => ⟨S4x512x512, .i32⟩
  | 25 => ⟨S4x512x512, .i32⟩
  | 26 => ⟨S_, .i32⟩
  | 27 => ⟨S4x512x512, .i32⟩
  | 28 => ⟨S4x512x512, .i32⟩
  | 29 => ⟨S_, .i32⟩
  | 30 => ⟨S4x512x512, .i32⟩
  | 31 => ⟨S4x512x512, .i32⟩
  | 32 => ⟨S4x512x512, .i32⟩
  | 33 => ⟨S4x262144, .i32⟩
  | 34 => ⟨S4x262144, .i32⟩
  | 35 => ⟨S4x262144, .i32⟩
  | 36 => ⟨S1048576, .i32⟩
  | 37 => ⟨S4x512x512, .f32⟩
  | 38 => ⟨S4x512x512, .f32⟩
  | 39 => ⟨S1048576, .f32⟩
  | 40 => ⟨S1048576x1, .f32⟩
  | 41 => ⟨S1048576x1, .f32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S1048576x1, .i32⟩
  | 50 => ⟨S1048576x1, .f32⟩
  | 51 => ⟨S_, .i32⟩
  | 52 => ⟨S1048576, .i32⟩
  | 53 => ⟨S1048576, .i1⟩
  | 54 => ⟨S_, .i32⟩
  | 55 => ⟨S1048576, .i32⟩
  | 56 => ⟨S1048576, .i32⟩
  | 57 => ⟨S1048576, .i32⟩
  | 58 => ⟨S1048576x1, .i32⟩
  | 59 => ⟨S1048576, .f32⟩
  | 60 => ⟨S_, .i32⟩
  | 61 => ⟨S4x512x512, .i32⟩
  | 62 => ⟨S4x512x512, .i1⟩
  | 63 => ⟨S_, .i32⟩
  | 64 => ⟨S4x512x512, .i32⟩
  | 65 => ⟨S4x512x512, .i1⟩
  | 66 => ⟨S4x512x512, .i1⟩
  | 67 => ⟨S_, .i32⟩
  | 68 => ⟨S4x512x512, .i32⟩
  | 69 => ⟨S4x512x512, .i1⟩
  | 70 => ⟨S4x512x512, .i1⟩
  | 71 => ⟨S_, .i32⟩
  | 72 => ⟨S4x512x512, .i32⟩
  | 73 => ⟨S4x512x512, .i1⟩
  | 74 => ⟨S4x512x512, .i1⟩
  | 75 => ⟨S_, .i32⟩
  | 76 => ⟨S_, .i32⟩
  | 77 => ⟨S_, .i32⟩
  | 78 => ⟨S4x512x512, .i32⟩
  | 79 => ⟨S4x512x512, .i32⟩
  | 80 => ⟨S_, .i32⟩
  | 81 => ⟨S4x512x512, .i32⟩
  | 82 => ⟨S4x512x512, .i32⟩
  | 83 => ⟨S_, .i32⟩
  | 84 => ⟨S_, .i32⟩
  | 85 => ⟨S_, .i32⟩
  | 86 => ⟨S4x512x512, .i32⟩
  | 87 => ⟨S4x512x512, .i32⟩
  | 88 => ⟨S_, .i32⟩
  | 89 => ⟨S4x512x512, .i32⟩
  | 90 => ⟨S4x512x512, .i32⟩
  | 91 => ⟨S_, .i32⟩
  | 92 => ⟨S4x512x512, .i32⟩
  | 93 => ⟨S4x512x512, .i32⟩
  | 94 => ⟨S4x512x512, .i32⟩
  | 95 => ⟨S4x262144, .i32⟩
  | 96 => ⟨S4x262144, .i32⟩
  | 97 => ⟨S4x262144, .i32⟩
  | 98 => ⟨S1048576, .i32⟩
  | 99 => ⟨S4x512x512, .f32⟩
  | 100 => ⟨S4x512x512, .f32⟩
  | 101 => ⟨S1048576, .f32⟩
  | 102 => ⟨S1048576x1, .f32⟩
  | 103 => ⟨S1048576x1, .f32⟩
  | 104 => ⟨S_, .i32⟩
  | 105 => ⟨S1048576, .i32⟩
  | 106 => ⟨S1048576, .i1⟩
  | 107 => ⟨S_, .i32⟩
  | 108 => ⟨S1048576, .i32⟩
  | 109 => ⟨S1048576, .i32⟩
  | 110 => ⟨S1048576, .i32⟩
  | 111 => ⟨S1048576x1, .i32⟩
  | 112 => ⟨S1048576x1, .f32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S1048576x1, .i32⟩
  | 121 => ⟨S1048576, .f32⟩
  | 122 => ⟨S4x262144x1, .f32⟩
  | 123 => ⟨S4x1x262144, .f32⟩
  | 124 => ⟨S4x1x512x512, .f32⟩
  | 125 => ⟨S4x1x512x512, .f32⟩
  | 126 => ⟨S_, .f32⟩
  | 127 => ⟨S4x1x512x512, .f32⟩
  | _ => ⟨S4x3x512x512, .f32⟩

abbrev hbmTy0_5 (i : Nat) : BufTy := match i % 128 with
  | 0 => ⟨S4x1x512x512, .f32⟩
  | 1 => ⟨S4x3x512x512, .f32⟩
  | 2 => ⟨S4x3x512x512, .f32⟩
  | _ => ⟨S4x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x3x512x512, .f32⟩

abbrev bufTy : (tb : Table) → Fin (tcTables nBuf tb) → BufTy
  | .hbm, ⟨i, _⟩ => hbmTy i
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_c_4 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_c_7 : Ref sig .tc := ⟨.hbm, 75, rfl⟩
abbrev main_v64 : Ref sig .tc := ⟨.hbm, 76, rfl⟩
abbrev main_v65 : Ref sig .tc := ⟨.hbm, 77, rfl⟩
abbrev main_c_8 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_c_9 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_c_10 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_c_11 : Ref sig .tc := ⟨.hbm, 90, rfl⟩
abbrev main_c_12 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_v75 : Ref sig .tc := ⟨.hbm, 97, rfl⟩
abbrev main_c_13 : Ref sig .tc := ⟨.hbm, 98, rfl⟩
abbrev main_c_14 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_c_17 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_c_19 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_20 : Ref sig .tc := ⟨.hbm, 138, rfl⟩
abbrev main_v104 : Ref sig .tc := ⟨.hbm, 139, rfl⟩
abbrev main_v105 : Ref sig .tc := ⟨.hbm, 140, rfl⟩
abbrev main_c_21 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_22 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_23 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_c_24 : Ref sig .tc := ⟨.hbm, 153, rfl⟩
abbrev main_c_25 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_v115 : Ref sig .tc := ⟨.hbm, 160, rfl⟩
abbrev main_c_26 : Ref sig .tc := ⟨.hbm, 161, rfl⟩
abbrev main_c_27 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_v116 : Ref sig .tc := ⟨.hbm, 168, rfl⟩
abbrev main_c_28 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_c_29 : Ref sig .tc := ⟨.hbm, 183, rfl⟩
abbrev main_v130 : Ref sig .tc := ⟨.hbm, 184, rfl⟩
abbrev main_v131 : Ref sig .tc := ⟨.hbm, 185, rfl⟩
abbrev main_c_30 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_c_31 : Ref sig .tc := ⟨.hbm, 192, rfl⟩
abbrev main_v137 : Ref sig .tc := ⟨.hbm, 193, rfl⟩
abbrev main_v138 : Ref sig .tc := ⟨.hbm, 194, rfl⟩
abbrev main_c_32 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_c_33 : Ref sig .tc := ⟨.hbm, 201, rfl⟩
abbrev main_v144 : Ref sig .tc := ⟨.hbm, 202, rfl⟩
abbrev main_v145 : Ref sig .tc := ⟨.hbm, 203, rfl⟩
abbrev main_c_34 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_c_35 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_c_36 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_c_37 : Ref sig .tc := ⟨.hbm, 216, rfl⟩
abbrev main_c_38 : Ref sig .tc := ⟨.hbm, 217, rfl⟩
abbrev main_call4_v0 : Ref sig .tc := ⟨.hbm, 218, rfl⟩
abbrev main_call4_v1 : Ref sig .tc := ⟨.hbm, 219, rfl⟩
abbrev main_call4_v2 : Ref sig .tc := ⟨.hbm, 220, rfl⟩
abbrev main_call4_v3 : Ref sig .tc := ⟨.hbm, 221, rfl⟩
abbrev main_call4_v4 : Ref sig .tc := ⟨.hbm, 222, rfl⟩
abbrev main_v155 : Ref sig .tc := ⟨.hbm, 223, rfl⟩
abbrev main_c_39 : Ref sig .tc := ⟨.hbm, 224, rfl⟩
abbrev main_c_40 : Ref sig .tc := ⟨.hbm, 225, rfl⟩
abbrev main_call5_v0 : Ref sig .tc := ⟨.hbm, 226, rfl⟩
abbrev main_call5_v1 : Ref sig .tc := ⟨.hbm, 227, rfl⟩
abbrev main_call5_v2 : Ref sig .tc := ⟨.hbm, 228, rfl⟩
abbrev main_call5_v3 : Ref sig .tc := ⟨.hbm, 229, rfl⟩
abbrev main_call5_v4 : Ref sig .tc := ⟨.hbm, 230, rfl⟩
abbrev main_v156 : Ref sig .tc := ⟨.hbm, 231, rfl⟩
abbrev main_c_41 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_c_42 : Ref sig .tc := ⟨.hbm, 246, rfl⟩
abbrev main_v170 : Ref sig .tc := ⟨.hbm, 247, rfl⟩
abbrev main_v171 : Ref sig .tc := ⟨.hbm, 248, rfl⟩
abbrev main_c_43 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_c_44 : Ref sig .tc := ⟨.hbm, 255, rfl⟩
abbrev main_v177 : Ref sig .tc := ⟨.hbm, 256, rfl⟩
abbrev main_v178 : Ref sig .tc := ⟨.hbm, 257, rfl⟩
abbrev main_c_45 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_c_46 : Ref sig .tc := ⟨.hbm, 264, rfl⟩
abbrev main_v184 : Ref sig .tc := ⟨.hbm, 265, rfl⟩
abbrev main_v185 : Ref sig .tc := ⟨.hbm, 266, rfl⟩
abbrev main_c_47 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_c_48 : Ref sig .tc := ⟨.hbm, 271, rfl⟩
abbrev main_v189 : Ref sig .tc := ⟨.hbm, 272, rfl⟩
abbrev main_v190 : Ref sig .tc := ⟨.hbm, 273, rfl⟩
abbrev main_v191 : Ref sig .tc := ⟨.hbm, 274, rfl⟩
abbrev main_c_49 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_c_50 : Ref sig .tc := ⟨.hbm, 279, rfl⟩
abbrev main_c_51 : Ref sig .tc := ⟨.hbm, 280, rfl⟩
abbrev main_call6_v0 : Ref sig .tc := ⟨.hbm, 281, rfl⟩
abbrev main_call6_v1 : Ref sig .tc := ⟨.hbm, 282, rfl⟩
abbrev main_call6_v2 : Ref sig .tc := ⟨.hbm, 283, rfl⟩
abbrev main_call6_v3 : Ref sig .tc := ⟨.hbm, 284, rfl⟩
abbrev main_call6_v4 : Ref sig .tc := ⟨.hbm, 285, rfl⟩
abbrev main_v195 : Ref sig .tc := ⟨.hbm, 286, rfl⟩
abbrev main_c_52 : Ref sig .tc := ⟨.hbm, 287, rfl⟩
abbrev main_c_53 : Ref sig .tc := ⟨.hbm, 288, rfl⟩
abbrev main_call7_v0 : Ref sig .tc := ⟨.hbm, 289, rfl⟩
abbrev main_call7_v1 : Ref sig .tc := ⟨.hbm, 290, rfl⟩
abbrev main_call7_v2 : Ref sig .tc := ⟨.hbm, 291, rfl⟩
abbrev main_call7_v3 : Ref sig .tc := ⟨.hbm, 292, rfl⟩
abbrev main_call7_v4 : Ref sig .tc := ⟨.hbm, 293, rfl⟩
abbrev main_v196 : Ref sig .tc := ⟨.hbm, 294, rfl⟩
abbrev main_c_54 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_c_55 : Ref sig .tc := ⟨.hbm, 309, rfl⟩
abbrev main_v210 : Ref sig .tc := ⟨.hbm, 310, rfl⟩
abbrev main_v211 : Ref sig .tc := ⟨.hbm, 311, rfl⟩
abbrev main_c_56 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_c_57 : Ref sig .tc := ⟨.hbm, 318, rfl⟩
abbrev main_v217 : Ref sig .tc := ⟨.hbm, 319, rfl⟩
abbrev main_v218 : Ref sig .tc := ⟨.hbm, 320, rfl⟩
abbrev main_c_58 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_v242 : Ref sig .tc := ⟨.hbm, 345, rfl⟩
abbrev main_v243 : Ref sig .tc := ⟨.hbm, 346, rfl⟩
abbrev main_c_59 : Ref sig .tc := ⟨.hbm, 347, rfl⟩
abbrev main_v244 : Ref sig .tc := ⟨.hbm, 348, rfl⟩
abbrev main_v245 : Ref sig .tc := ⟨.hbm, 349, rfl⟩
abbrev main_v246 : Ref sig .tc := ⟨.hbm, 350, rfl⟩
abbrev main_v247 : Ref sig .tc := ⟨.hbm, 351, rfl⟩
abbrev main_c_60 : Ref sig .tc := ⟨.hbm, 352, rfl⟩
abbrev main_v248 : Ref sig .tc := ⟨.hbm, 353, rfl⟩
abbrev main_v249 : Ref sig .tc := ⟨.hbm, 354, rfl⟩
abbrev main_v250 : Ref sig .tc := ⟨.hbm, 355, rfl⟩
abbrev main_v251 : Ref sig .tc := ⟨.hbm, 356, rfl⟩
abbrev main_v252 : Ref sig .tc := ⟨.hbm, 357, rfl⟩
abbrev main_v253 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_v271 : Ref sig .tc := ⟨.hbm, 376, rfl⟩
abbrev main_v272 : Ref sig .tc := ⟨.hbm, 377, rfl⟩
abbrev main_c_61 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_cst_62 : Ref sig .tc := ⟨.hbm, 382, rfl⟩
abbrev main_v276 : Ref sig .tc := ⟨.hbm, 383, rfl⟩
abbrev main_cst_63 : Ref sig .tc := ⟨.hbm, 384, rfl⟩
abbrev main_v277 : Ref sig .tc := ⟨.hbm, 385, rfl⟩
abbrev main_c_64 : Ref sig .tc := ⟨.hbm, 386, rfl⟩
abbrev main_v278 : Ref sig .tc := ⟨.hbm, 387, rfl⟩
abbrev main_v279 : Ref sig .tc := ⟨.hbm, 388, rfl⟩
abbrev main_c_65 : Ref sig .tc := ⟨.hbm, 389, rfl⟩
abbrev main_v280 : Ref sig .tc := ⟨.hbm, 390, rfl⟩
abbrev main_v281 : Ref sig .tc := ⟨.hbm, 391, rfl⟩
abbrev main_v282 : Ref sig .tc := ⟨.hbm, 392, rfl⟩
abbrev main_c_66 : Ref sig .tc := ⟨.hbm, 393, rfl⟩
abbrev main_v283 : Ref sig .tc := ⟨.hbm, 394, rfl⟩
abbrev main_v284 : Ref sig .tc := ⟨.hbm, 395, rfl⟩
abbrev main_v285 : Ref sig .tc := ⟨.hbm, 396, rfl⟩
abbrev main_c_67 : Ref sig .tc := ⟨.hbm, 397, rfl⟩
abbrev main_v286 : Ref sig .tc := ⟨.hbm, 398, rfl⟩
abbrev main_v287 : Ref sig .tc := ⟨.hbm, 399, rfl⟩
abbrev main_v288 : Ref sig .tc := ⟨.hbm, 400, rfl⟩
abbrev main_c_68 : Ref sig .tc := ⟨.hbm, 401, rfl⟩
abbrev main_c_69 : Ref sig .tc := ⟨.hbm, 402, rfl⟩
abbrev main_call8_v0 : Ref sig .tc := ⟨.hbm, 403, rfl⟩
abbrev main_call8_v1 : Ref sig .tc := ⟨.hbm, 404, rfl⟩
abbrev main_call8_v2 : Ref sig .tc := ⟨.hbm, 405, rfl⟩
abbrev main_call8_v3 : Ref sig .tc := ⟨.hbm, 406, rfl⟩
abbrev main_call8_v4 : Ref sig .tc := ⟨.hbm, 407, rfl⟩
abbrev main_v289 : Ref sig .tc := ⟨.hbm, 408, rfl⟩
abbrev main_c_70 : Ref sig .tc := ⟨.hbm, 409, rfl⟩
abbrev main_c_71 : Ref sig .tc := ⟨.hbm, 410, rfl⟩
abbrev main_call9_v0 : Ref sig .tc := ⟨.hbm, 411, rfl⟩
abbrev main_call9_v1 : Ref sig .tc := ⟨.hbm, 412, rfl⟩
abbrev main_call9_v2 : Ref sig .tc := ⟨.hbm, 413, rfl⟩
abbrev main_call9_v3 : Ref sig .tc := ⟨.hbm, 414, rfl⟩
abbrev main_call9_v4 : Ref sig .tc := ⟨.hbm, 415, rfl⟩
abbrev main_v290 : Ref sig .tc := ⟨.hbm, 416, rfl⟩
abbrev main_c_72 : Ref sig .tc := ⟨.hbm, 417, rfl⟩
abbrev main_v291 : Ref sig .tc := ⟨.hbm, 418, rfl⟩
abbrev main_v292 : Ref sig .tc := ⟨.hbm, 419, rfl⟩
abbrev main_v293 : Ref sig .tc := ⟨.hbm, 420, rfl⟩
abbrev main_v294 : Ref sig .tc := ⟨.hbm, 421, rfl⟩
abbrev main_v295 : Ref sig .tc := ⟨.hbm, 422, rfl⟩
abbrev main_v296 : Ref sig .tc := ⟨.hbm, 423, rfl⟩
abbrev main_v297 : Ref sig .tc := ⟨.hbm, 424, rfl⟩
abbrev main_v298 : Ref sig .tc := ⟨.hbm, 425, rfl⟩
abbrev main_v299 : Ref sig .tc := ⟨.hbm, 426, rfl⟩
abbrev main_v300 : Ref sig .tc := ⟨.hbm, 427, rfl⟩
abbrev main_v301 : Ref sig .tc := ⟨.hbm, 428, rfl⟩
abbrev main_v302 : Ref sig .tc := ⟨.hbm, 429, rfl⟩
abbrev main_c_73 : Ref sig .tc := ⟨.hbm, 430, rfl⟩
abbrev main_v303 : Ref sig .tc := ⟨.hbm, 431, rfl⟩
abbrev main_v304 : Ref sig .tc := ⟨.hbm, 432, rfl⟩
abbrev main_c_74 : Ref sig .tc := ⟨.hbm, 433, rfl⟩
abbrev main_v305 : Ref sig .tc := ⟨.hbm, 434, rfl⟩
abbrev main_v306 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_c_75 : Ref sig .tc := ⟨.hbm, 439, rfl⟩
abbrev main_v310 : Ref sig .tc := ⟨.hbm, 440, rfl⟩
abbrev main_v311 : Ref sig .tc := ⟨.hbm, 441, rfl⟩
abbrev main_c_76 : Ref sig .tc := ⟨.hbm, 442, rfl⟩
abbrev main_v312 : Ref sig .tc := ⟨.hbm, 443, rfl⟩
abbrev main_v313 : Ref sig .tc := ⟨.hbm, 444, rfl⟩
abbrev main_v314 : Ref sig .tc := ⟨.hbm, 445, rfl⟩
abbrev main_v315 : Ref sig .tc := ⟨.hbm, 446, rfl⟩
abbrev main_v316 : Ref sig .tc := ⟨.hbm, 447, rfl⟩
abbrev main_c_77 : Ref sig .tc := ⟨.hbm, 448, rfl⟩
abbrev main_v317 : Ref sig .tc := ⟨.hbm, 449, rfl⟩
abbrev main_v318 : Ref sig .tc := ⟨.hbm, 450, rfl⟩
abbrev main_c_78 : Ref sig .tc := ⟨.hbm, 451, rfl⟩
abbrev main_v319 : Ref sig .tc := ⟨.hbm, 452, rfl⟩
abbrev main_v320 : Ref sig .tc := ⟨.hbm, 453, rfl⟩
abbrev main_v321 : Ref sig .tc := ⟨.hbm, 454, rfl⟩
abbrev main_c_79 : Ref sig .tc := ⟨.hbm, 455, rfl⟩
abbrev main_v322 : Ref sig .tc := ⟨.hbm, 456, rfl⟩
abbrev main_v323 : Ref sig .tc := ⟨.hbm, 457, rfl⟩
abbrev main_v324 : Ref sig .tc := ⟨.hbm, 458, rfl⟩
abbrev main_c_80 : Ref sig .tc := ⟨.hbm, 459, rfl⟩
abbrev main_v325 : Ref sig .tc := ⟨.hbm, 460, rfl⟩
abbrev main_v326 : Ref sig .tc := ⟨.hbm, 461, rfl⟩
abbrev main_v327 : Ref sig .tc := ⟨.hbm, 462, rfl⟩
abbrev main_c_81 : Ref sig .tc := ⟨.hbm, 463, rfl⟩
abbrev main_c_82 : Ref sig .tc := ⟨.hbm, 464, rfl⟩
abbrev main_call10_v0 : Ref sig .tc := ⟨.hbm, 465, rfl⟩
abbrev main_call10_v1 : Ref sig .tc := ⟨.hbm, 466, rfl⟩
abbrev main_call10_v2 : Ref sig .tc := ⟨.hbm, 467, rfl⟩
abbrev main_call10_v3 : Ref sig .tc := ⟨.hbm, 468, rfl⟩
abbrev main_call10_v4 : Ref sig .tc := ⟨.hbm, 469, rfl⟩
abbrev main_v328 : Ref sig .tc := ⟨.hbm, 470, rfl⟩
abbrev main_c_83 : Ref sig .tc := ⟨.hbm, 471, rfl⟩
abbrev main_c_84 : Ref sig .tc := ⟨.hbm, 472, rfl⟩
abbrev main_call11_v0 : Ref sig .tc := ⟨.hbm, 473, rfl⟩
abbrev main_call11_v1 : Ref sig .tc := ⟨.hbm, 474, rfl⟩
abbrev main_call11_v2 : Ref sig .tc := ⟨.hbm, 475, rfl⟩
abbrev main_call11_v3 : Ref sig .tc := ⟨.hbm, 476, rfl⟩
abbrev main_call11_v4 : Ref sig .tc := ⟨.hbm, 477, rfl⟩
abbrev main_v329 : Ref sig .tc := ⟨.hbm, 478, rfl⟩
abbrev main_c_85 : Ref sig .tc := ⟨.hbm, 479, rfl⟩
abbrev main_v330 : Ref sig .tc := ⟨.hbm, 480, rfl⟩
abbrev main_v331 : Ref sig .tc := ⟨.hbm, 481, rfl⟩
abbrev main_v332 : Ref sig .tc := ⟨.hbm, 482, rfl⟩
abbrev main_v333 : Ref sig .tc := ⟨.hbm, 483, rfl⟩
abbrev main_v334 : Ref sig .tc := ⟨.hbm, 484, rfl⟩
abbrev main_v335 : Ref sig .tc := ⟨.hbm, 485, rfl⟩
abbrev main_v336 : Ref sig .tc := ⟨.hbm, 486, rfl⟩
abbrev main_v337 : Ref sig .tc := ⟨.hbm, 487, rfl⟩
abbrev main_v338 : Ref sig .tc := ⟨.hbm, 488, rfl⟩
abbrev main_v339 : Ref sig .tc := ⟨.hbm, 489, rfl⟩
abbrev main_v340 : Ref sig .tc := ⟨.hbm, 490, rfl⟩
abbrev main_v341 : Ref sig .tc := ⟨.hbm, 491, rfl⟩
abbrev main_c_86 : Ref sig .tc := ⟨.hbm, 492, rfl⟩
abbrev main_v342 : Ref sig .tc := ⟨.hbm, 493, rfl⟩
abbrev main_v343 : Ref sig .tc := ⟨.hbm, 494, rfl⟩
abbrev main_c_87 : Ref sig .tc := ⟨.hbm, 495, rfl⟩
abbrev main_v344 : Ref sig .tc := ⟨.hbm, 496, rfl⟩
abbrev main_v345 : Ref sig .tc := ⟨.hbm, 497, rfl⟩
abbrev main_v346 : Ref sig .tc := ⟨.hbm, 498, rfl⟩
abbrev main_v347 : Ref sig .tc := ⟨.hbm, 499, rfl⟩
abbrev main_v348 : Ref sig .tc := ⟨.hbm, 500, rfl⟩
abbrev main_c_88 : Ref sig .tc := ⟨.hbm, 501, rfl⟩
abbrev main_v349 : Ref sig .tc := ⟨.hbm, 502, rfl⟩
abbrev main_v350 : Ref sig .tc := ⟨.hbm, 503, rfl⟩
abbrev main_c_89 : Ref sig .tc := ⟨.hbm, 504, rfl⟩
abbrev main_v351 : Ref sig .tc := ⟨.hbm, 505, rfl⟩
abbrev main_v352 : Ref sig .tc := ⟨.hbm, 506, rfl⟩
abbrev main_v353 : Ref sig .tc := ⟨.hbm, 507, rfl⟩
abbrev main_v354 : Ref sig .tc := ⟨.hbm, 508, rfl⟩
abbrev main_v355 : Ref sig .tc := ⟨.hbm, 509, rfl⟩
abbrev main_c_90 : Ref sig .tc := ⟨.hbm, 510, rfl⟩
abbrev main_v356 : Ref sig .tc := ⟨.hbm, 511, rfl⟩
abbrev main_v357 : Ref sig .tc := ⟨.hbm, 512, rfl⟩
abbrev main_c_91 : Ref sig .tc := ⟨.hbm, 513, rfl⟩
abbrev main_v358 : Ref sig .tc := ⟨.hbm, 514, rfl⟩
abbrev main_v359 : Ref sig .tc := ⟨.hbm, 515, rfl⟩
abbrev main_v360 : Ref sig .tc := ⟨.hbm, 516, rfl⟩
abbrev main_c_92 : Ref sig .tc := ⟨.hbm, 517, rfl⟩
abbrev main_v361 : Ref sig .tc := ⟨.hbm, 518, rfl⟩
abbrev main_v362 : Ref sig .tc := ⟨.hbm, 519, rfl⟩
abbrev main_v363 : Ref sig .tc := ⟨.hbm, 520, rfl⟩
abbrev main_c_93 : Ref sig .tc := ⟨.hbm, 521, rfl⟩
abbrev main_v364 : Ref sig .tc := ⟨.hbm, 522, rfl⟩
abbrev main_v365 : Ref sig .tc := ⟨.hbm, 523, rfl⟩
abbrev main_v366 : Ref sig .tc := ⟨.hbm, 524, rfl⟩
abbrev main_c_94 : Ref sig .tc := ⟨.hbm, 525, rfl⟩
abbrev main_c_95 : Ref sig .tc := ⟨.hbm, 526, rfl⟩
abbrev main_call12_v0 : Ref sig .tc := ⟨.hbm, 527, rfl⟩
abbrev main_call12_v1 : Ref sig .tc := ⟨.hbm, 528, rfl⟩
abbrev main_call12_v2 : Ref sig .tc := ⟨.hbm, 529, rfl⟩
abbrev main_call12_v3 : Ref sig .tc := ⟨.hbm, 530, rfl⟩
abbrev main_call12_v4 : Ref sig .tc := ⟨.hbm, 531, rfl⟩
abbrev main_v367 : Ref sig .tc := ⟨.hbm, 532, rfl⟩
abbrev main_c_96 : Ref sig .tc := ⟨.hbm, 533, rfl⟩
abbrev main_c_97 : Ref sig .tc := ⟨.hbm, 534, rfl⟩
abbrev main_call13_v0 : Ref sig .tc := ⟨.hbm, 535, rfl⟩
abbrev main_call13_v1 : Ref sig .tc := ⟨.hbm, 536, rfl⟩
abbrev main_call13_v2 : Ref sig .tc := ⟨.hbm, 537, rfl⟩
abbrev main_call13_v3 : Ref sig .tc := ⟨.hbm, 538, rfl⟩
abbrev main_call13_v4 : Ref sig .tc := ⟨.hbm, 539, rfl⟩
abbrev main_v368 : Ref sig .tc := ⟨.hbm, 540, rfl⟩
abbrev main_c_98 : Ref sig .tc := ⟨.hbm, 541, rfl⟩
abbrev main_v369 : Ref sig .tc := ⟨.hbm, 542, rfl⟩
abbrev main_v370 : Ref sig .tc := ⟨.hbm, 543, rfl⟩
abbrev main_v371 : Ref sig .tc := ⟨.hbm, 544, rfl⟩
abbrev main_v372 : Ref sig .tc := ⟨.hbm, 545, rfl⟩
abbrev main_v373 : Ref sig .tc := ⟨.hbm, 546, rfl⟩
abbrev main_v374 : Ref sig .tc := ⟨.hbm, 547, rfl⟩
abbrev main_v375 : Ref sig .tc := ⟨.hbm, 548, rfl⟩
abbrev main_v376 : Ref sig .tc := ⟨.hbm, 549, rfl⟩
abbrev main_v377 : Ref sig .tc := ⟨.hbm, 550, rfl⟩
abbrev main_v378 : Ref sig .tc := ⟨.hbm, 551, rfl⟩
abbrev main_v379 : Ref sig .tc := ⟨.hbm, 552, rfl⟩
abbrev main_v380 : Ref sig .tc := ⟨.hbm, 553, rfl⟩
abbrev main_c_99 : Ref sig .tc := ⟨.hbm, 554, rfl⟩
abbrev main_v381 : Ref sig .tc := ⟨.hbm, 555, rfl⟩
abbrev main_v382 : Ref sig .tc := ⟨.hbm, 556, rfl⟩
abbrev main_c_100 : Ref sig .tc := ⟨.hbm, 557, rfl⟩
abbrev main_v383 : Ref sig .tc := ⟨.hbm, 558, rfl⟩
abbrev main_v384 : Ref sig .tc := ⟨.hbm, 559, rfl⟩
abbrev main_v385 : Ref sig .tc := ⟨.hbm, 560, rfl⟩
abbrev main_v386 : Ref sig .tc := ⟨.hbm, 561, rfl⟩
abbrev main_v387 : Ref sig .tc := ⟨.hbm, 562, rfl⟩
abbrev main_c_101 : Ref sig .tc := ⟨.hbm, 563, rfl⟩
abbrev main_v388 : Ref sig .tc := ⟨.hbm, 564, rfl⟩
abbrev main_v389 : Ref sig .tc := ⟨.hbm, 565, rfl⟩
abbrev main_c_102 : Ref sig .tc := ⟨.hbm, 566, rfl⟩
abbrev main_v390 : Ref sig .tc := ⟨.hbm, 567, rfl⟩
abbrev main_v391 : Ref sig .tc := ⟨.hbm, 568, rfl⟩
abbrev main_v392 : Ref sig .tc := ⟨.hbm, 569, rfl⟩
abbrev main_v393 : Ref sig .tc := ⟨.hbm, 570, rfl⟩
abbrev main_v394 : Ref sig .tc := ⟨.hbm, 571, rfl⟩
abbrev main_c_103 : Ref sig .tc := ⟨.hbm, 572, rfl⟩
abbrev main_v395 : Ref sig .tc := ⟨.hbm, 573, rfl⟩
abbrev main_v396 : Ref sig .tc := ⟨.hbm, 574, rfl⟩
abbrev main_c_104 : Ref sig .tc := ⟨.hbm, 575, rfl⟩
abbrev main_v397 : Ref sig .tc := ⟨.hbm, 576, rfl⟩
abbrev main_v398 : Ref sig .tc := ⟨.hbm, 577, rfl⟩
abbrev main_v399 : Ref sig .tc := ⟨.hbm, 578, rfl⟩
abbrev main_c_105 : Ref sig .tc := ⟨.hbm, 579, rfl⟩
abbrev main_v400 : Ref sig .tc := ⟨.hbm, 580, rfl⟩
abbrev main_v401 : Ref sig .tc := ⟨.hbm, 581, rfl⟩
abbrev main_v402 : Ref sig .tc := ⟨.hbm, 582, rfl⟩
abbrev main_c_106 : Ref sig .tc := ⟨.hbm, 583, rfl⟩
abbrev main_v403 : Ref sig .tc := ⟨.hbm, 584, rfl⟩
abbrev main_v404 : Ref sig .tc := ⟨.hbm, 585, rfl⟩
abbrev main_v405 : Ref sig .tc := ⟨.hbm, 586, rfl⟩
abbrev main_c_107 : Ref sig .tc := ⟨.hbm, 587, rfl⟩
abbrev main_c_108 : Ref sig .tc := ⟨.hbm, 588, rfl⟩
abbrev main_call14_v0 : Ref sig .tc := ⟨.hbm, 589, rfl⟩
abbrev main_call14_v1 : Ref sig .tc := ⟨.hbm, 590, rfl⟩
abbrev main_call14_v2 : Ref sig .tc := ⟨.hbm, 591, rfl⟩
abbrev main_call14_v3 : Ref sig .tc := ⟨.hbm, 592, rfl⟩
abbrev main_call14_v4 : Ref sig .tc := ⟨.hbm, 593, rfl⟩
abbrev main_v406 : Ref sig .tc := ⟨.hbm, 594, rfl⟩
abbrev main_c_109 : Ref sig .tc := ⟨.hbm, 595, rfl⟩
abbrev main_c_110 : Ref sig .tc := ⟨.hbm, 596, rfl⟩
abbrev main_call15_v0 : Ref sig .tc := ⟨.hbm, 597, rfl⟩
abbrev main_call15_v1 : Ref sig .tc := ⟨.hbm, 598, rfl⟩
abbrev main_call15_v2 : Ref sig .tc := ⟨.hbm, 599, rfl⟩
abbrev main_call15_v3 : Ref sig .tc := ⟨.hbm, 600, rfl⟩
abbrev main_call15_v4 : Ref sig .tc := ⟨.hbm, 601, rfl⟩
abbrev main_v407 : Ref sig .tc := ⟨.hbm, 602, rfl⟩
abbrev main_c_111 : Ref sig .tc := ⟨.hbm, 603, rfl⟩
abbrev main_v408 : Ref sig .tc := ⟨.hbm, 604, rfl⟩
abbrev main_v409 : Ref sig .tc := ⟨.hbm, 605, rfl⟩
abbrev main_v410 : Ref sig .tc := ⟨.hbm, 606, rfl⟩
abbrev main_v411 : Ref sig .tc := ⟨.hbm, 607, rfl⟩
abbrev main_v412 : Ref sig .tc := ⟨.hbm, 608, rfl⟩
abbrev main_v413 : Ref sig .tc := ⟨.hbm, 609, rfl⟩
abbrev main_v414 : Ref sig .tc := ⟨.hbm, 610, rfl⟩
abbrev main_v415 : Ref sig .tc := ⟨.hbm, 611, rfl⟩
abbrev main_v416 : Ref sig .tc := ⟨.hbm, 612, rfl⟩
abbrev main_v417 : Ref sig .tc := ⟨.hbm, 613, rfl⟩
abbrev main_v418 : Ref sig .tc := ⟨.hbm, 614, rfl⟩
abbrev main_v419 : Ref sig .tc := ⟨.hbm, 615, rfl⟩
abbrev main_c_112 : Ref sig .tc := ⟨.hbm, 616, rfl⟩
abbrev main_v420 : Ref sig .tc := ⟨.hbm, 617, rfl⟩
abbrev main_v421 : Ref sig .tc := ⟨.hbm, 618, rfl⟩
abbrev main_c_113 : Ref sig .tc := ⟨.hbm, 619, rfl⟩
abbrev main_v422 : Ref sig .tc := ⟨.hbm, 620, rfl⟩
abbrev main_v423 : Ref sig .tc := ⟨.hbm, 621, rfl⟩
abbrev main_v424 : Ref sig .tc := ⟨.hbm, 622, rfl⟩
abbrev main_v425 : Ref sig .tc := ⟨.hbm, 623, rfl⟩
abbrev main_v426 : Ref sig .tc := ⟨.hbm, 624, rfl⟩
abbrev main_c_114 : Ref sig .tc := ⟨.hbm, 625, rfl⟩
abbrev main_v427 : Ref sig .tc := ⟨.hbm, 626, rfl⟩
abbrev main_v428 : Ref sig .tc := ⟨.hbm, 627, rfl⟩
abbrev main_c_115 : Ref sig .tc := ⟨.hbm, 628, rfl⟩
abbrev main_v429 : Ref sig .tc := ⟨.hbm, 629, rfl⟩
abbrev main_v430 : Ref sig .tc := ⟨.hbm, 630, rfl⟩
abbrev main_v431 : Ref sig .tc := ⟨.hbm, 631, rfl⟩
abbrev main_v432 : Ref sig .tc := ⟨.hbm, 632, rfl⟩
abbrev main_v433 : Ref sig .tc := ⟨.hbm, 633, rfl⟩
abbrev main_v434 : Ref sig .tc := ⟨.hbm, 634, rfl⟩
abbrev main_v435 : Ref sig .tc := ⟨.hbm, 635, rfl⟩
abbrev main_v436 : Ref sig .tc := ⟨.hbm, 636, rfl⟩
abbrev main_v437 : Ref sig .tc := ⟨.hbm, 637, rfl⟩
abbrev main_cst_116 : Ref sig .tc := ⟨.hbm, 638, rfl⟩
abbrev main_v438 : Ref sig .tc := ⟨.hbm, 639, rfl⟩
abbrev main_v439 : Ref sig .tc := ⟨.hbm, 640, rfl⟩
abbrev main_v440 : Ref sig .tc := ⟨.hbm, 641, rfl⟩
abbrev main_v441 : Ref sig .tc := ⟨.hbm, 642, rfl⟩

abbrev nD : Nat := 1
abbrev τ : Topo := Topo.v7x

variable {F : FTy → Type} [FloatOps F]
-- ==== Proof.Consts.lean ====
/-
  The float constants that the two programs spell, as the extended reals that their words denote.
-/
module

public import Idealize.ShloMosaic.PureOps.Ideal
public import Idealize.ShloMosaic.Lib.IdealHost

@[expose] public section

noncomputable section

namespace Cert.Consts

open Idealize.ShloMosaic

/-- The word of `+∞` denotes the top of the extended reals. -/
theorem ofBits_top : Ideal.ofBits .f32 0x7F800000#32 = (⊤ : EReal) := by
  simp [Ideal.ofBits, Ideal.ieee]

/-- The numerator of the base, `1414`. -/
theorem ofBits_1414 : Ideal.ofBits .f32 0x44B0C000#32 = ((1414 : ℝ) : EReal) := by
  simp [Ideal.ofBits, Ideal.ieee, -EReal.coe_mul]; norm_num

/-- The denominator of the base, `1000`. -/
theorem ofBits_1000 : Ideal.ofBits .f32 0x447A0000#32 = ((1000 : ℝ) : EReal) := by
  simp [Ideal.ofBits, Ideal.ieee, -EReal.coe_mul]; norm_num

/-- The floor of the weight sum, as the rational that its word is (next to one millionth). -/
def eps : ℝ := 8796093 / 8796093022208

/-- The floor's word denotes that rational. -/
theorem ofBits_eps : Ideal.ofBits .f32 0x358637BD#32 = (eps : EReal) := by
  unfold eps
  simp [Ideal.ofBits, Ideal.ieee, -EReal.coe_mul]; norm_num

/-- The floor is positive. -/
theorem eps_pos : 0 < eps := by unfold eps; norm_num

end Cert.Consts

end
-- ==== Proof.Mix.lean ====
/-
  What both programs compute along one line of the picture: each pixel keeps the part `1 - d` of its weighted value,
  takes the part `d` of its right neighbour's, and the sum is divided by the sum of the weights. The kernel weights a
  disparity by `1.414 ^ d`, the reference by `1.414 ^ (d - m)` with the smallest disparity `m`: the quotient is the same.
-/
module

public import Idealize.ShloMosaic.PureOps.Ideal
public import Mathlib.Analysis.SpecialFunctions.Pow.Real
public import Mathlib.Tactic.Ring
public import Mathlib.Tactic.Linarith
public import proofs.«01_k».proof.Proof.Consts

@[expose] public section

noncomputable section

namespace Cert.Mix

open Idealize.ShloMosaic Cert.Consts

/-- The base of the weights, 1.414. -/
def base : ℝ := 707 / 500

/-- The base is positive. -/
theorem base_pos : 0 < base := by unfold base; norm_num

/-- The base is at least one. -/
theorem one_le_base : 1 ≤ base := by unfold base; norm_num

/-- The weight that a pixel of disparity `d` keeps. -/
def keep (d : ℝ) : ℝ := base ^ d * (1 - d)

/-- The weight that a pixel of disparity `d` gives to its left neighbour. -/
def give (d : ℝ) : ℝ := base ^ d * d

/-- The weight kept isn't negative for a disparity of at most one. -/
theorem keep_nonneg (d : ℝ) (h : d ≤ 1) : 0 ≤ keep d :=
  mul_nonneg (Real.rpow_nonneg base_pos.le d) (by linarith)

/-- The weight given isn't negative for a disparity of at least zero. -/
theorem give_nonneg (d : ℝ) (h : 0 ≤ d) : 0 ≤ give d :=
  mul_nonneg (Real.rpow_nonneg base_pos.le d) h

/-- One pixel from its own value `a` with weight `P` and its neighbour's `a'` with weight `Q`. -/
def blend (a a' : EReal) (P Q : ℝ) : EReal :=
  (a * (P : EReal) + a' * (Q : EReal)) * Ideal.div 1 (max ((P + Q : ℝ) : EReal) (eps : EReal))

/-- The pixel at column `x` of a line with values `a` and disparities `d`. -/
def mix (a : Fin 512 → EReal) (d : Fin 512 → ℝ) (x : Fin 512) : EReal :=
  if h : x.val + 1 < 512 then blend (a x) (a ⟨x.val + 1, h⟩) (keep (d x)) (give (d ⟨x.val + 1, h⟩))
  else blend (a x) 0 (keep (d x)) 0

/-- The floor of the weight sum acts alike on weights that are all scaled by `c ≤ 1`, when it does not act at all or
    `c` is one. -/
theorem scaled_floor (M c : ℝ) (hM : 0 ≤ M) (hc : 0 < c) (hc1 : c ≤ 1) (h : c = 1 ∨ eps ≤ M * c) :
    c * (1 / max (M * c) eps) = 1 / max M eps := by
  rcases h with h | h
  · rw [h, mul_one, one_mul]
  · have hMc : M * c ≤ M := mul_le_of_le_one_right hM hc1
    have hpos : 0 < M := lt_of_lt_of_le (lt_of_lt_of_le eps_pos h) hMc
    rw [max_eq_left h, max_eq_left (h.trans hMc)]
    field_simp

/-- The quotient of the scaled sums is the blend with the unscaled weights. -/
theorem quotient_eq (a a' : EReal) (P Q c : ℝ) (hP : 0 ≤ P) (hQ : 0 ≤ Q) (hc : 0 < c) (hc1 : c ≤ 1)
    (h : c = 1 ∨ eps ≤ (P + Q) * c) :
    Ideal.div (a * ((P * c : ℝ) : EReal) + a' * ((Q * c : ℝ) : EReal)) (max (((P + Q) * c : ℝ) : EReal) (eps : EReal))
      = blend a a' P Q := by
  have hne : ∀ M : ℝ, max M eps ≠ 0 := fun M => (lt_of_lt_of_le eps_pos (le_max_right _ _)).ne'
  unfold blend
  have e1 : max (((P + Q) * c : ℝ) : EReal) (eps : EReal) = ((max ((P + Q) * c) eps : ℝ) : EReal) :=
    (EReal.coe_strictMono.monotone.map_max).symm
  have e2 : max ((P + Q : ℝ) : EReal) (eps : EReal) = ((max (P + Q) eps : ℝ) : EReal) := (EReal.coe_strictMono.monotone.map_max).symm
  rw [e1, e2, Ideal.div_coe (hne _), Ideal.div_coe (hne _), one_mul, ← scaled_floor (P + Q) c (add_nonneg hP hQ) hc hc1 h,
    EReal.coe_mul P c, EReal.coe_mul Q c, ← mul_assoc, ← mul_assoc,
    ← EReal.right_distrib_of_nonneg_of_ne_top (by exact_mod_cast hc.le) (EReal.coe_ne_top c), mul_assoc, ← EReal.coe_mul]

/-- The reference's weight is the kernel's times one factor for the whole array. -/
theorem weight_split (d μ : ℝ) : base ^ (d - μ) = base ^ d * base ^ (-μ) := by
  rw [sub_eq_add_neg, Real.rpow_add base_pos]

/-- That factor is positive. -/
theorem factor_pos (μ : ℝ) : 0 < base ^ (-μ) := Real.rpow_pos_of_pos base_pos _

/-- That factor is at most one when the smallest disparity isn't negative. -/
theorem factor_le_one (μ : ℝ) (h : 0 ≤ μ) : base ^ (-μ) ≤ 1 :=
  Real.rpow_le_one_of_one_le_of_nonpos one_le_base (by linarith)

/-- A weight with a disparity not below the smallest one is at least one. -/
theorem one_le_weight (d μ : ℝ) (h : μ ≤ d) : 1 ≤ base ^ d * base ^ (-μ) := by
  rw [← weight_split]
  exact Real.one_le_rpow one_le_base (by linarith)

/-- The reference's quotient at one pixel with a right neighbour. -/
theorem inner_eq (a a' : EReal) (d d' μ : ℝ) (h0 : 0 ≤ d) (h1 : d ≤ 1) (h0' : 0 ≤ d') (hμ : 0 ≤ μ)
    (hd : μ ≤ d) (hd' : μ ≤ d') (h : eps ≤ (1 - d) + d' ∨ μ = 0) :
    Ideal.div (a * ((base ^ (d - μ) : ℝ) : EReal) * ((1 - d : ℝ) : EReal)
        + a' * ((base ^ (d' - μ) : ℝ) : EReal) * (d' : EReal))
      (max (((base ^ (d - μ) : ℝ) : EReal) * ((1 - d : ℝ) : EReal) + ((base ^ (d' - μ) : ℝ) : EReal) * (d' : EReal))
        (eps : EReal))
      = blend a a' (keep d) (give d') := by
  rw [← quotient_eq a a' (keep d) (give d') (base ^ (-μ)) (keep_nonneg d h1) (give_nonneg d' h0') (factor_pos μ)
    (factor_le_one μ hμ)]
  · have e1 : keep d * base ^ (-μ) = base ^ (d - μ) * (1 - d) := by rw [weight_split]; unfold keep; ring
    have e2 : give d' * base ^ (-μ) = base ^ (d' - μ) * d' := by rw [weight_split]; unfold give; ring
    rw [add_mul, e1, e2, EReal.coe_add, EReal.coe_mul, EReal.coe_mul, mul_assoc, mul_assoc]
  · rcases h with h | h
    · right
      refine h.trans ?_
      have k1 := mul_le_mul_of_nonneg_right (one_le_weight d μ hd) (show 0 ≤ 1 - d by linarith)
      have k2 := mul_le_mul_of_nonneg_right (one_le_weight d' μ hd') h0'
      unfold keep give
      calc (1 - d) + d' = 1 * (1 - d) + 1 * d' := by ring
        _ ≤ _ := add_le_add k1 k2
        _ = _ := by ring
    · left
      rw [h, neg_zero, Real.rpow_zero]

/-- The reference's quotient in the last column. -/
theorem last_eq (a : EReal) (d μ : ℝ) (h0 : 0 ≤ d) (h1 : d ≤ 1) (hμ : 0 ≤ μ) (hd : μ ≤ d)
    (h : eps ≤ 1 - d ∨ μ = 0) :
    Ideal.div (a * ((base ^ (d - μ) : ℝ) : EReal) * ((1 - d : ℝ) : EReal))
      (max (((base ^ (d - μ) : ℝ) : EReal) * ((1 - d : ℝ) : EReal)) (eps : EReal))
      = blend a 0 (keep d) 0 := by
  rw [← quotient_eq a 0 (keep d) 0 (base ^ (-μ)) (keep_nonneg d h1) le_rfl (factor_pos μ) (factor_le_one μ hμ)]
  · have e1 : keep d * base ^ (-μ) = base ^ (d - μ) * (1 - d) := by rw [weight_split]; unfold keep; ring
    rw [add_zero, e1, EReal.coe_mul, zero_mul, add_zero, mul_assoc]
  · rcases h with h | h
    · right
      refine h.trans ?_
      have k1 := mul_le_mul_of_nonneg_right (one_le_weight d μ hd) (show 0 ≤ 1 - d by linarith)
      unfold keep
      calc (1 - d) = 1 * (1 - d) := by ring
        _ ≤ _ := k1
        _ = _ := by ring
    · left
      rw [h, neg_zero, Real.rpow_zero]

end Cert.Mix

end
-- ==== Proof.Block.lean ====
/-
  What the kernel computes in one grid point, from its block of the picture and its block of the disparities, read at
  one pixel.
-/
module

public import proofs.«01_k».proof.Proof.Gen.KernelIdeal.Skeleton
public import Idealize.ShloMosaic.Lib.Pipeline.Value
public import Idealize.ShloMosaic.Lib.ValueIdx
public import Idealize.ShloMosaic.Lib.IdealHost
public import proofs.«01_k».proof.Proof.Mix

@[expose] public section

noncomputable section

namespace Cert.Block

open Cert.KernelIdeal Cert.KernelIdeal.Gen Idealize.ShloMosaic Idealize.ShloMosaic.ValueIdx Cert.Consts

/-- The kernel's constant, the base's logarithm to the base two. -/
def rate : EReal := Named.named (F := Ideal) κ "log2_base" (φ := .f32) 0x3EFFE371#32

/-- The weight of a disparity. -/
def weight (d : EReal) : EReal := Ideal.exp2 (d * rate)

/-- The part of its weight that a pixel gives to its left neighbour. -/
def given (d : EReal) : EReal := weight d * d

/-- The part of its weight that a pixel keeps. -/
def kept (d : EReal) : EReal := weight d - given d

/-- The value at the right neighbour in the line, zero in the last column. -/
def after (f : Fin 512 → EReal) (x : Fin 512) : EReal := if h : x.val + 1 < 512 then f ⟨x.val + 1, h⟩ else 0

/-- The kernel's result at column `x` of a line with values `a` and disparities `d`. -/
def pixel (a d : Fin 512 → EReal) (x : Fin 512) : EReal :=
  (a x * kept (d x) + after (fun x => a x * given (d x)) x)
    * Ideal.div 1 (max (kept (d x) + after (fun x => given (d x)) x) (eps : EReal))

/-- One value per pixel, repeated for the three channels. -/
def spread (v : FVec Ideal S2x512x512 .f32) : FVec Ideal S2x3x512x512 .f32 :=
  broadcastTo S2x3x512x512 (shapeCast S2x1x512x512 v shapeCasts_S2x512x512_S2x1x512x512)
    broadcasts_S2x1x512x512_S2x3x512x512

/-- Spreading over the channels, read at one entry: every channel gets the pixel's value. -/
theorem spread_apply (v : FVec Ideal S2x512x512 .f32) (b : Fin 2) (k : Fin 3) (y x : Fin 512) :
    spread v (ix4 b k y x) = v (ix3 b y x) := by
  unfold spread
  rw [broadcastTo_apply _ _ (ix4 b k y x) (ix4 b 0 y x : S2x1x512x512.Idx) (fun a => match a with
      | ⟨0, _⟩ => rfl
      | ⟨1, _⟩ => rfl
      | ⟨2, _⟩ => rfl
      | ⟨3, _⟩ => rfl),
    shapeCast_apply _ _ (ix4 b 0 y x : S2x1x512x512.Idx) (ix3 b y x) (by
      rw [Shape.rowMajor_val_four, Shape.rowMajor_val_three]
      show (b.val * 512 + y.val) * 512 + x.val = ((b.val * 1 + 0) * 512 + y.val) * 512 + x.val
      omega)]

/-- One value per pixel, moved one column to the left, a zero column joined on. -/
def moved (v : FVec Ideal S2x512x512 .f32) : FVec Ideal S2x512x512 .f32 :=
  concatenate S2x512x512 2 [⟨S2x512x511, extractStridedSlice S2x512x511 ![0, 0, 1] v slices_S2x512x512_o0_0_1_S2x512x511⟩,
    ⟨S2x512x1, broadcast S2x512x1 (Scalar.ofBits (F := Ideal) .f32 0x00000000#32)⟩]
    concatenates_S2x512x511_S2x512x1_S2x512x512_d2

/-- The moved values, read at one pixel: the right neighbour's, or zero in the last column. -/
theorem moved_apply (v : FVec Ideal S2x512x512 .f32) (b : Fin 2) (y x : Fin 512) :
    moved v (ix3 b y x) = after (fun x => v (ix3 b y x)) x := by
  unfold moved after
  by_cases h : x.val + 1 < 512
  · rw [dif_pos h]
    refine (concatenate_pair_apply_left (t := S2x512x512) (s₁ := S2x512x511) (s₂ := S2x512x1) 2 _ _ _ (ix3 b y x) rfl
      (ix3 b y ⟨x.val, by omega⟩ : S2x512x511.Idx) (fun a => match a with
        | ⟨0, _⟩ => rfl
        | ⟨1, _⟩ => rfl
        | ⟨2, _⟩ => rfl)).trans ?_
    exact extractStridedSlice_apply _ _ _ _ (ix3 b y ⟨x.val + 1, h⟩ : S2x512x512.Idx) (fun a => match a with
      | ⟨0, _⟩ => (Nat.zero_add _).symm
      | ⟨1, _⟩ => (Nat.zero_add _).symm
      | ⟨2, _⟩ => Nat.add_comm _ _)
  · rw [dif_neg h]
    have hx : x.val = 511 := by have := x.isLt; omega
    refine (concatenate_pair_apply_right (t := S2x512x512) (s₁ := S2x512x511) (s₂ := S2x512x1) 2 _ _ _ (ix3 b y x) rfl rfl
      (ix3 b y 0 : S2x512x1.Idx) (fun a ha => match a with
        | ⟨0, _⟩ => rfl
        | ⟨1, _⟩ => rfl
        | ⟨2, _⟩ => absurd rfl ha) (by show 0 + 511 = x.val; omega)).trans ?_
    exact Ideal.ofBits_zero_f32

/-- The three channels, moved one column to the left, a zero column joined on. -/
def moved3 (v : FVec Ideal S2x3x512x512 .f32) : FVec Ideal S2x3x512x512 .f32 :=
  concatenate S2x3x512x512 3
    [⟨S2x3x512x511, extractStridedSlice S2x3x512x511 ![0, 0, 0, 1] v slices_S2x3x512x512_o0_0_0_1_S2x3x512x511⟩,
      ⟨S2x3x512x1, broadcast S2x3x512x1 (Scalar.ofBits (F := Ideal) .f32 0x00000000#32)⟩]
    concatenates_S2x3x512x511_S2x3x512x1_S2x3x512x512_d3

/-- The moved values with channels, read at one entry in the same way. -/
theorem moved3_apply (v : FVec Ideal S2x3x512x512 .f32) (b : Fin 2) (k : Fin 3) (y x : Fin 512) :
    moved3 v (ix4 b k y x) = after (fun x => v (ix4 b k y x)) x := by
  unfold moved3 after
  by_cases h : x.val + 1 < 512
  · rw [dif_pos h]
    refine (concatenate_pair_apply_left (t := S2x3x512x512) (s₁ := S2x3x512x511) (s₂ := S2x3x512x1) 3 _ _ _ (ix4 b k y x) rfl
      (ix4 b k y ⟨x.val, by omega⟩ : S2x3x512x511.Idx) (fun a => match a with
        | ⟨0, _⟩ => rfl
        | ⟨1, _⟩ => rfl
        | ⟨2, _⟩ => rfl
        | ⟨3, _⟩ => rfl)).trans ?_
    exact extractStridedSlice_apply _ _ _ _ (ix4 b k y ⟨x.val + 1, h⟩ : S2x3x512x512.Idx) (fun a => match a with
      | ⟨0, _⟩ => (Nat.zero_add _).symm
      | ⟨1, _⟩ => (Nat.zero_add _).symm
      | ⟨2, _⟩ => (Nat.zero_add _).symm
      | ⟨3, _⟩ => Nat.add_comm _ _)
  · rw [dif_neg h]
    have hx : x.val = 511 := by have := x.isLt; omega
    refine (concatenate_pair_apply_right (t := S2x3x512x512) (s₁ := S2x3x512x511) (s₂ := S2x3x512x1) 3 _ _ _ (ix4 b k y x) rfl rfl
      (ix4 b k y 0 : S2x3x512x1.Idx) (fun a ha => match a with
        | ⟨0, _⟩ => rfl
        | ⟨1, _⟩ => rfl
        | ⟨2, _⟩ => rfl
        | ⟨3, _⟩ => absurd rfl ha) (by show 0 + 511 = x.val; omega)).trans ?_
    exact Ideal.ofBits_zero_f32

/-- The block's disparities without their channel axis, and from them the parts given and kept. -/
def disp (v0 : FVec Ideal S2x1x512x512 .f32) : FVec Ideal S2x512x512 .f32 :=
  shapeCast S2x512x512 v0 shapeCasts_S2x1x512x512_S2x512x512

/-- What each pixel of the block gives to its left neighbour. -/
def givens (v0 : FVec Ideal S2x1x512x512 .f32) : FVec Ideal S2x512x512 .f32 := fun i => given (disp v0 i)

/-- What each pixel of the block keeps. -/
def keeps (v0 : FVec Ideal S2x1x512x512 .f32) : FVec Ideal S2x512x512 .f32 := fun i => kept (disp v0 i)

/-- The block's disparities without their channel axis, read at one pixel. -/
theorem disp_apply (v0 : FVec Ideal S2x1x512x512 .f32) (b : Fin 2) (y x : Fin 512) :
    disp v0 (ix3 b y x) = v0 (ix4 b 0 y x) := by
  refine shapeCast_apply _ _ _ _ ?_
  rw [Shape.rowMajor_val_four, Shape.rowMajor_val_three]
  show ((b.val * 1 + 0) * 512 + y.val) * 512 + x.val = (b.val * 512 + y.val) * 512 + x.val
  omega

/-- The stored block, stage by stage. -/
theorem stages (v0 : FVec Ideal S2x1x512x512 .f32) (v15 : FVec Ideal S2x3x512x512 .f32) :
    k0_pay1 (F := Ideal) v0 v15
      = mulf (addf (mulf v15 (spread (keeps v0))) (moved3 (mulf v15 (spread (givens v0)))))
          (spread (divf (broadcast S2x512x512 (Scalar.ofBits (F := Ideal) .f32 0x3F800000#32))
            (maximumf (addf (keeps v0) (moved (givens v0)))
              (broadcast S2x512x512 (Scalar.ofBits (F := Ideal) .f32 0x358637BD#32))))) := rfl

/-- The stored block at one pixel. -/
theorem payload_apply (v0 : FVec Ideal S2x1x512x512 .f32) (v15 : FVec Ideal S2x3x512x512 .f32) (b : Fin 2) (k : Fin 3)
    (y x : Fin 512) :
    k0_pay1 (F := Ideal) v0 v15 (ix4 b k y x) = pixel (fun x => v15 (ix4 b k y x)) (fun x => v0 (ix4 b 0 y x)) x := by
  have eg : ∀ x : Fin 512, givens v0 (ix3 b y x) = given (v0 (ix4 b 0 y x)) := fun x => by
    show given (disp v0 (ix3 b y x)) = _
    rw [disp_apply]
  have ek : keeps v0 (ix3 b y x) = kept (v0 (ix4 b 0 y x)) := by
    show kept (disp v0 (ix3 b y x)) = _
    rw [disp_apply]
  have em : ∀ x : Fin 512, mulf v15 (spread (givens v0)) (ix4 b k y x)
      = (v15 (ix4 b k y x) * given (v0 (ix4 b 0 y x)) : EReal) := fun x => by
    rw [← eg x, ← spread_apply (givens v0) b k y x]
    rfl
  rw [stages]
  show ((v15 (ix4 b k y x) * spread (keeps v0) (ix4 b k y x) + moved3 (mulf v15 (spread (givens v0))) (ix4 b k y x))
      * spread _ (ix4 b k y x) : EReal) = _
  rw [spread_apply, spread_apply, moved3_apply, ek]
  show (v15 (ix4 b k y x) * kept (v0 (ix4 b 0 y x)) + after (fun x => mulf v15 (spread (givens v0)) (ix4 b k y x)) x)
      * Ideal.div (Ideal.ofBits .f32 0x3F800000#32)
        (max (keeps v0 (ix3 b y x) + moved (givens v0) (ix3 b y x)) (Ideal.ofBits .f32 0x358637BD#32)) = _
  rw [moved_apply, ek, Ideal.ofBits_one_f32, ofBits_eps]
  unfold pixel
  simp only [em, eg]

end Cert.Block

end
-- ==== Proof.KernelValue.lean ====
/-
  What the kernel leaves in its result array: at each pixel, the pixel formula along the pixel's line. Each of the two
  grid points writes the two batch elements of its block, and the blocks cover the array.
-/
module

public import proofs.«01_k».proof.Proof.Gen.KernelIdeal.Value
public import proofs.«01_k».proof.Proof.Block

@[expose] public section

noncomputable section

namespace Cert.KernelValue

open Cert.KernelIdeal Cert.KernelIdeal.Gen Cert.KernelIdeal.Value Idealize.ShloMosaic Idealize.ShloMosaic.TcCoe
  Idealize.SL.Sem Idealize.ShloMosaic.ValueIdx Cert.Block

/-- The result array, from the picture and the disparities. -/
def result (im : FVec Ideal S4x3x512x512 .f32) (d : FVec Ideal S4x1x512x512 .f32) : FVec Ideal S4x3x512x512 .f32 :=
  fun i => pixel (fun x => im (ix4 (i 0) (i 1) (i 2) x)) (fun x => d (ix4 (i 0) 0 (i 2) x)) (i 3)

/-- What the body leaves in the result's staging buffer is its one store of a whole block. -/
theorem out_eq (x0 : Vec Ideal S2x3x512x512 .f32) (x1 : Vec Ideal S2x1x512x512 .f32) :
    out0_2 x0 x1 = k0_pay1 (F := Ideal) x1 x0 := by
  have hz : (![0, 0, 0, 0] : Fin 4 → Nat) = fun _ => 0 := funext fun a => by fin_cases a <;> rfl
  unfold out0_2
  rw [View.canon_unit_zero hz, View.ld_unit_zero hz, View.ld_unit_zero hz]

variable (m : (ℓ : Loc nD τ sig) → Buf (Elt Ideal) ℓ) (ρ : Dev nD → PrngReg)

/-- The three windows move together along the batch axis and stand still along the others. -/
theorem index_facts : ∀ t : Fin cfg0.N,
    (win0_0.index t (0 : Fin 4) = t.val ∧ win0_0.index t (1 : Fin 4) = 0 ∧ win0_0.index t (2 : Fin 4) = 0
        ∧ win0_0.index t (3 : Fin 4) = 0)
      ∧ (win0_1.index t (0 : Fin 4) = t.val ∧ win0_1.index t (1 : Fin 4) = 0 ∧ win0_1.index t (2 : Fin 4) = 0
        ∧ win0_1.index t (3 : Fin 4) = 0)
      ∧ (win0_2.index t (0 : Fin 4) = t.val ∧ win0_2.index t (1 : Fin 4) = 0 ∧ win0_2.index t (2 : Fin 4) = 0
        ∧ win0_2.index t (3 : Fin 4) = 0) :=
  (by decide +kernel : ∀ t : Fin grid0.N, _)

/-- The batch element that a block's `b`-th one is. -/
def batch (t : Fin cfg0.N) (b : Fin 2) : Fin 4 :=
  ⟨t.val * 2 + b.val, by have ht : t.val < 2 := t.isLt; have := b.isLt; omega⟩

/-- Where an index of a block lies in its array. -/
theorem emb0 (t : Fin cfg0.N) (b : Fin 2) (k : Fin 3) (y x : Fin 512) :
    ((cfg0.win 0).blk t).view.emb (ix4 b k y x : S2x3x512x512.Idx) = (ix4 (batch t b) k y x : S4x3x512x512.Idx) := by
  obtain ⟨⟨e0, e1, e2, e3⟩, -, -⟩ := index_facts t
  funext a; apply Fin.ext
  match a with
  | ⟨0, _⟩ => show win0_0.index t (0 : Fin 4) * 2 + 1 * b.val = t.val * 2 + b.val; omega
  | ⟨1, _⟩ => show win0_0.index t (1 : Fin 4) * 3 + 1 * k.val = k.val; omega
  | ⟨2, _⟩ => show win0_0.index t (2 : Fin 4) * 512 + 1 * y.val = y.val; omega
  | ⟨3, _⟩ => show win0_0.index t (3 : Fin 4) * 512 + 1 * x.val = x.val; omega

/-- Where an entry of the disparities' block lies in the whole array. -/
theorem emb1 (t : Fin cfg0.N) (b : Fin 2) (y x : Fin 512) :
    ((cfg0.win 1).blk t).view.emb (ix4 b 0 y x : S2x1x512x512.Idx) = (ix4 (batch t b) 0 y x : S4x1x512x512.Idx) := by
  obtain ⟨-, ⟨e0, e1, e2, e3⟩, -⟩ := index_facts t
  funext a; apply Fin.ext
  match a with
  | ⟨0, _⟩ => show win0_1.index t (0 : Fin 4) * 2 + 1 * b.val = t.val * 2 + b.val; omega
  | ⟨1, _⟩ => show win0_1.index t (1 : Fin 4) * 1 + 1 * 0 = 0; omega
  | ⟨2, _⟩ => show win0_1.index t (2 : Fin 4) * 512 + 1 * y.val = y.val; omega
  | ⟨3, _⟩ => show win0_1.index t (3 : Fin 4) * 512 + 1 * x.val = x.val; omega

/-- Where an entry of the result's block lies in the whole array. -/
theorem emb2 (t : Fin cfg0.N) (b : Fin 2) (k : Fin 3) (y x : Fin 512) :
    ((cfg0.win 2).blk t).view.emb (ix4 b k y x : S2x3x512x512.Idx) = (ix4 (batch t b) k y x : S4x3x512x512.Idx) := by
  obtain ⟨-, -, e0, e1, e2, e3⟩ := index_facts t
  funext a; apply Fin.ext
  match a with
  | ⟨0, _⟩ => show win0_2.index t (0 : Fin 4) * 2 + 1 * b.val = t.val * 2 + b.val; omega
  | ⟨1, _⟩ => show win0_2.index t (1 : Fin 4) * 3 + 1 * k.val = k.val; omega
  | ⟨2, _⟩ => show win0_2.index t (2 : Fin 4) * 512 + 1 * y.val = y.val; omega
  | ⟨3, _⟩ => show win0_2.index t (3 : Fin 4) * 512 + 1 * x.val = x.val; omega

/-- A grid point's blocks, read at a pixel: the argument arrays at the pixel's place. -/
theorem iblk0_apply (c : Dev nD) (t : Fin cfg0.N) (b : Fin 2) (k : Fin 3) (y x : Fin 512) :
    iblk m c 0 t (ix4 b k y x : S2x3x512x512.Idx) = V m c main_arg0 (ix4 (batch t b) k y x : S4x3x512x512.Idx) := by
  show V m c main_arg0 (((cfg0.win 0).blk t).view.emb (ix4 b k y x : S2x3x512x512.Idx)) = _
  rw [emb0]

/-- The disparities' block, read at one pixel: the array's entry at that place. -/
theorem iblk1_apply (c : Dev nD) (t : Fin cfg0.N) (b : Fin 2) (y x : Fin 512) :
    iblk m c 1 t (ix4 b 0 y x : S2x1x512x512.Idx) = V m c main_arg1 (ix4 (batch t b) 0 y x : S4x1x512x512.Idx) := by
  show V m c main_arg1 (((cfg0.win 1).blk t).view.emb (ix4 b 0 y x : S2x1x512x512.Idx)) = _
  rw [emb1]

/-- What a grid point writes back is its block of the result. -/
theorem flushed_eq (c : Dev nD) (t : Fin cfg0.N) :
    (dats m 0 c).flushed 2 t = ((cfg0.win 2).blk t).view.read (Elt Ideal) (result (V m c main_arg0) (V m c main_arg1)) := by
  rw [flushed2, out_eq]
  funext j
  obtain ⟨b, k, y, x, rfl⟩ : ∃ (b : Fin 2) (k : Fin 3) (y x : Fin 512), j = (ix4 b k y x : S2x3x512x512.Idx) :=
    ⟨j 0, j 1, j 2, j 3, funext fun a => match a with
      | ⟨0, _⟩ => rfl
      | ⟨1, _⟩ => rfl
      | ⟨2, _⟩ => rfl
      | ⟨3, _⟩ => rfl⟩
  show k0_pay1 (F := Ideal) (iblk m c 1 t) (iblk m c 0 t) (ix4 b k y x : S2x3x512x512.Idx)
    = result (V m c main_arg0) (V m c main_arg1) (((cfg0.win 2).blk t).view.emb (ix4 b k y x : S2x3x512x512.Idx))
  rw [emb2, payload_apply]
  exact congrArg₂ (fun a d => pixel a d x) (funext fun x => iblk0_apply m c t b k y x)
    (funext fun x => iblk1_apply m c t b y x)

/-- Every index of the result is in some grid point's block. -/
theorem covered (i : S4x3x512x512.Idx) :
    ∃ t : Fin cfg0.N, (cfg0.win 2).flush t = true ∧ i ∈ ((cfg0.win 2).blk t).view.set := by
  obtain ⟨b, k, y, x, rfl⟩ : ∃ (b : Fin 4) (k : Fin 3) (y x : Fin 512), i = (ix4 b k y x : S4x3x512x512.Idx) :=
    ⟨i 0, i 1, i 2, i 3, funext fun a => match a with
      | ⟨0, _⟩ => rfl
      | ⟨1, _⟩ => rfl
      | ⟨2, _⟩ => rfl
      | ⟨3, _⟩ => rfl⟩
  obtain ⟨t, b', rfl⟩ : ∃ (t : Fin cfg0.N) (b' : Fin 2), b = batch t b' :=
    ⟨⟨b.val / 2, by have := b.isLt; show b.val / 2 < 2; omega⟩, ⟨b.val % 2, Nat.mod_lt _ (by decide)⟩,
      Fin.ext (by show b.val = b.val / 2 * 2 + b.val % 2; omega)⟩
  refine ⟨t, flush0_2 t, ?_⟩
  rw [← emb2]
  exact ((cfg0.win 2).blk t).view.emb_mem_set _

/-- The result array after the run. -/
theorem final (c : Dev nD) : (dats m 0 c).arrAt 2 cfg0.N
    = result (m ((c : Thread nD τ).loc main_arg0)) (m ((c : Thread nD τ).loc main_arg1)) :=
  ((dats m 0 c).arrAt_eq_of_cover 2 (result (V m c main_arg0) (V m c main_arg1)) (fun t _ => flushed_eq m c t) covered).trans
    (by rw [V_main_arg0, V_main_arg1])

/-- The kernel's run, its result array named. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.KernelValue

end
-- ==== Proof.Words.lean ====
/-
  The index words of one corner of the splat: which target pixel a source pixel's corner names, and whether it lies in
  the picture. All on single 32-bit words, for coordinates in the ranges that occur.
-/
module

public import Idealize.ShloMosaic.PureOps
public import Idealize.ShloMosaic.Lib.WordArith
public import Idealize.ShloMosaic.Lib.WordCmp

@[expose] public section

namespace Cert.Words

open Idealize.ShloMosaic

/-- Is the corner `(dx, dy)` inside the picture of 512 × 512 pixels? -/
def inside (dx dy : BitVec 32) : BitVec 1 :=
  IntOp.andi (IntOp.andi (IntOp.andi (IntOp.cmpi .sge dx 0#32) (IntOp.cmpi .slt dx 512#32)) (IntOp.cmpi .sge dy 0#32))
    (IntOp.cmpi .slt dy 512#32)

/-- A coordinate clipped to `[0, 511]`. -/
def clip (x : BitVec 32) : BitVec 32 := IntOp.minsi 511#32 (IntOp.maxsi 0#32 x)

/-- The row of the flat picture that the (clipped) corner names in batch element `b`. -/
def flat (b dx dy : BitVec 32) : BitVec 32 :=
  IntOp.addi (IntOp.addi (IntOp.muli (clip dy) 512#32) (clip dx)) (IntOp.muli b 262144#32)

/-- The wrap of a negative index around the 1048576 rows. -/
def wrap (x : BitVec 32) : BitVec 32 :=
  Scalar.select (IntOp.cmpi .slt x 0#32) (IntOp.addi x 1048576#32) x

/-- A coordinate of the picture is not negative … -/
theorem sge_zero : ∀ x : Fin 512, IntOp.cmpi .sge (BitVec.ofNat 32 x.val) 0#32 = 1#1 := by decide +kernel
/-- … it is below 512 … -/
theorem slt_512 : ∀ x : Fin 512, IntOp.cmpi .slt (BitVec.ofNat 32 x.val) 512#32 = 1#1 := by decide +kernel
/-- … and clipping leaves it alone. -/
theorem clip_ofNat : ∀ x : Fin 512, clip (BitVec.ofNat 32 x.val) = BitVec.ofNat 32 x.val := by decide +kernel

/-- A corner with both coordinates in the picture is inside. -/
theorem inside_ofNat (x y : Fin 512) : inside (BitVec.ofNat 32 x.val) (BitVec.ofNat 32 y.val) = 1#1 := by
  unfold inside
  rw [sge_zero, sge_zero, slt_512, slt_512]; rfl

/-- The column left of the picture is outside. -/
theorem inside_neg_one (dy : BitVec 32) : inside (BitVec.ofInt 32 (-1)) dy = 0#1 := by
  unfold inside
  have h : IntOp.cmpi .sge (BitVec.ofInt 32 (-1)) 0#32 = 0#1 := by decide +kernel
  rw [h]
  simp [IntOp.andi]

/-- The flat row of a corner inside the picture, read signed: `(b · 512 + y) · 512 + x`. -/
theorem wrap_flat (b : Fin 4) (x y : Fin 512) :
    (wrap (flat (BitVec.ofNat 32 b.val) (BitVec.ofNat 32 x.val) (BitVec.ofNat 32 y.val))).toInt
      = (((b.val * 512 + y.val) * 512 + x.val : ℕ) : ℤ) := by
  have hb := b.isLt
  have hx := x.isLt
  have hy := y.isLt
  have e : flat (BitVec.ofNat 32 b.val) (BitVec.ofNat 32 x.val) (BitVec.ofNat 32 y.val)
      = BitVec.ofNat 32 ((b.val * 512 + y.val) * 512 + x.val) := by
    unfold flat
    rw [clip_ofNat, clip_ofNat, WordCmp.muli_ofNat, WordCmp.muli_ofNat, WordCmp.addi_ofNat, WordCmp.addi_ofNat]
    congr 1
    omega
  have hlt : (b.val * 512 + y.val) * 512 + x.val < 2 ^ 31 := by omega
  have hc : IntOp.cmpi .slt (BitVec.ofNat 32 ((b.val * 512 + y.val) * 512 + x.val)) 0#32 = 0#1 :=
    (WordCmp.cmpi_slt_ofNat_eq_zero_iff (w := 32) (a := (b.val * 512 + y.val) * 512 + x.val) (b := 0) hlt (by decide)).2 (by omega)
  unfold wrap
  rw [e, hc, WordCmp.select_of_eq_zero rfl, WordArith.toInt_ofNat_small _ hlt]

end Cert.Words
-- ==== Proof.Pixel.lean ====
/-
  One source pixel of the splat: with a disparity between zero and one, of its four corners only the pixel itself and
  its left neighbour get a share, `1 - d` and `d`.
-/
module

public import Idealize.ShloMosaic.PureOps.Ideal
public import proofs.«01_k».proof.Proof.Words
public import Mathlib.Tactic.Ring
public import Mathlib.Tactic.Linarith

@[expose] public section

noncomputable section

namespace Cert.Pixel

open Idealize.ShloMosaic Cert.Words

/-- The integer word of a coordinate's floor. -/
def floorWord (t : EReal) : BitVec 32 := Ideal.fptosi 32 (Ideal.liftRound Int.floor t)

/-- An integer word as a number, read signed. -/
def num (b : BitVec 32) : EReal := ((b.toInt : ℝ) : EReal)

/-- A bit as a number. -/
def bit (b : BitVec 1) : EReal := ((b.toNat : ℝ) : EReal)

/-- The next integer word. -/
def next (b : BitVec 32) : BitVec 32 := IntOp.addi b 1#32

/-- The value `v` with weight `w` sent to the corner `(dx, dy)`, as it arrives at the flat row `p`. -/
def share (b dx dy : BitVec 32) (v w : EReal) (p : ℤ) : EReal :=
  if (wrap (flat b dx dy)).toInt = p then v * (w * bit (inside dx dy)) else 0

/-- What the four corners of a pixel with target `(tx, ty)` bring to the flat row `p`, in the order of the splat. -/
def arrives (b : BitVec 32) (tx ty v : EReal) (p : ℤ) : EReal :=
  share b (floorWord tx) (floorWord ty) v ((num (next (floorWord tx)) - tx) * (num (next (floorWord ty)) - ty)) p
  + share b (floorWord tx) (next (floorWord ty)) v ((num (next (floorWord tx)) - tx) * (ty - num (floorWord ty))) p
  + share b (next (floorWord tx)) (floorWord ty) v ((tx - num (floorWord tx)) * (num (next (floorWord ty)) - ty)) p
  + share b (next (floorWord tx)) (next (floorWord ty)) v ((tx - num (floorWord tx)) * (ty - num (floorWord ty))) p

/-- The floor of a real number of moderate size, as a word. -/
theorem floorWord_coe (r : ℝ) (z : ℤ) (hz : ⌊r⌋ = z) (h1 : -1000 ≤ z) (h2 : z ≤ 1000) :
    floorWord (r : EReal) = BitVec.ofInt 32 z := by
  unfold floorWord Ideal.fptosi
  show BitVec.ofInt 32 (max _ (min _ (if 0 ≤ ((⌊r⌋ : ℤ) : ℝ) then ⌊((⌊r⌋ : ℤ) : ℝ)⌋ else ⌈((⌊r⌋ : ℤ) : ℝ)⌉))) = _
  rw [Int.floor_intCast, Int.ceil_intCast, ite_self, hz]
  congr 1
  rw [min_eq_right, max_eq_right]
  · norm_num; omega
  · norm_num; omega

/-- A natural number's word, as a word of an integer. -/
theorem ofInt_nat (n : ℕ) : BitVec.ofInt 32 (n : ℤ) = BitVec.ofNat 32 n := by
  rw [BitVec.ofInt_natCast]

/-- The word after `-1` is `0`; the word after `n` is `n + 1`. -/
theorem next_ofNat (n : ℕ) : next (BitVec.ofNat 32 n) = BitVec.ofNat 32 (n + 1) :=
  WordCmp.addi_ofNat n 1

/-- The word after minus one is zero. -/
theorem next_neg_one : next (BitVec.ofInt 32 (-1)) = BitVec.ofNat 32 0 := by decide +kernel

/-- The number of a small natural's word is that natural. -/
theorem num_ofNat (n : ℕ) (h : n ≤ 1000) : num (BitVec.ofNat 32 n) = ((n : ℝ) : EReal) := by
  unfold num
  rw [WordArith.toInt_ofNat_small n (by omega)]
  norm_cast

/-- The number of the word of `-1`. -/
theorem num_neg_one : num (BitVec.ofInt 32 (-1)) = ((-1 : ℝ) : EReal) := by
  unfold num
  have : (BitVec.ofInt 32 (-1)).toInt = -1 := by decide +kernel
  rw [this]; norm_cast

/-- A corner of weight zero brings nothing. -/
theorem share_zero (b dx dy : BitVec 32) (v w : EReal) (p : ℤ) (hw : w = 0) : share b dx dy v w p = 0 := by
  unfold share
  rw [hw, zero_mul, mul_zero, ite_self]

/-- A corner outside the picture brings nothing. -/
theorem share_outside (b dx dy : BitVec 32) (v w : EReal) (p : ℤ) (h : inside dx dy = 0#1) :
    share b dx dy v w p = 0 := by
  unfold share
  have : bit (inside dx dy) = 0 := by rw [h]; simp [bit]
  rw [this, mul_zero, mul_zero, ite_self]

/-- A corner inside the picture brings its weighted value to its own row. -/
theorem share_inside (b : Fin 4) (x y : Fin 512) (v w : EReal) (p : ℤ) :
    share (BitVec.ofNat 32 b.val) (BitVec.ofNat 32 x.val) (BitVec.ofNat 32 y.val) v w p
      = if (((b.val * 512 + y.val) * 512 + x.val : ℕ) : ℤ) = p then v * w else 0 := by
  unfold share
  have : bit (inside (BitVec.ofNat 32 x.val) (BitVec.ofNat 32 y.val)) = 1 := by
    rw [inside_ofNat]; simp [bit]
  rw [wrap_flat, this, mul_one]

/-- A product of two differences of reals, computed in the reals. -/
theorem weight_eq (a b c d w : ℝ) (h : (a - b) * (c - d) = w) :
    ((a : EReal) - b) * ((c : EReal) - d) = (w : EReal) := by
  rw [← h, EReal.coe_mul, EReal.coe_sub, EReal.coe_sub]

/-- The floor of a pixel's own row. -/
theorem floorWord_nat (n : ℕ) (h : n ≤ 512) : floorWord ((n : ℝ) : EReal) = BitVec.ofNat 32 n := by
  rw [floorWord_coe _ (n : ℤ) (Int.floor_natCast _) (by omega) (by omega), ofInt_nat]

/-- The four shares when the target's row is the pixel's own row: the two corners of the next row get weight zero. -/
theorem arrives_row (b : BitVec 32) (tx : ℝ) (y : Fin 512) (v : EReal) (p : ℤ) :
    arrives b (tx : EReal) ((y.val : ℝ) : EReal) v p
      = share b (floorWord (tx : EReal)) (BitVec.ofNat 32 y.val) v
          ((num (next (floorWord (tx : EReal))) - (tx : EReal)) * (((y.val + 1 : ℕ) : ℝ) - ((y.val : ℝ) : EReal))) p
        + share b (next (floorWord (tx : EReal))) (BitVec.ofNat 32 y.val) v
          (((tx : EReal) - num (floorWord (tx : EReal))) * (((y.val + 1 : ℕ) : ℝ) - ((y.val : ℝ) : EReal))) p := by
  have hy := y.isLt
  have z : ((y.val : ℝ) : EReal) - ((y.val : ℝ) : EReal) = 0 := by
    rw [← EReal.coe_sub, sub_self]; rfl
  unfold arrives
  rw [floorWord_nat _ (by omega), next_ofNat, num_ofNat _ (by omega), num_ofNat _ (by omega), z]
  rw [share_zero _ _ (BitVec.ofNat 32 (y.val + 1)) _ _ _ (mul_zero _),
    share_zero _ _ (BitVec.ofNat 32 (y.val + 1)) _ _ _ (mul_zero _), add_zero, add_zero]

/-- A source pixel at `(b, y, x)` with disparity `d` between zero and one brings `v (1 - d)` to its own row of the flat
    picture and `v d` to the row before, when that one is in the same line. -/
theorem arrives_eq (b : Fin 4) (x y : Fin 512) (d : ℝ) (h0 : 0 ≤ d) (h1 : d ≤ 1) (v : EReal) (p : ℤ) :
    arrives (BitVec.ofNat 32 b.val) ((((x.val : ℝ) - d : ℝ)) : EReal) ((y.val : ℝ) : EReal) v p
      = (if (((b.val * 512 + y.val) * 512 + x.val : ℕ) : ℤ) = p then v * ((1 - d : ℝ) : EReal) else 0)
        + (if 0 < x.val ∧ (((b.val * 512 + y.val) * 512 + x.val : ℕ) : ℤ) = p + 1 then v * (d : EReal) else 0) := by
  have hx := x.isLt
  rw [arrives_row]
  rcases eq_or_lt_of_le h0 with h | h
  · subst h
    rw [sub_zero, floorWord_nat _ (by omega), next_ofNat, num_ofNat _ (by omega), num_ofNat _ (by omega),
      weight_eq _ _ _ _ (1 - 0 : ℝ) (by push_cast; ring), weight_eq _ _ _ _ (0 : ℝ) (by push_cast; ring),
      share_zero _ (BitVec.ofNat 32 (x.val + 1)) _ _ _ _ EReal.coe_zero, share_inside]
    simp only [EReal.coe_zero, mul_zero, ite_self]
  · have f : ⌊(x.val : ℝ) - d⌋ = (x.val : ℤ) - 1 := by
      rw [Int.floor_eq_iff]
      constructor
      · push_cast; linarith
      · push_cast; linarith
    rw [floorWord_coe _ _ f (by omega) (by omega)]
    rcases Nat.eq_zero_or_pos x.val with hz | hp
    · have e : ((x.val : ℤ) - 1) = -1 := by omega
      have e0 : BitVec.ofNat 32 0 = BitVec.ofNat 32 x.val := by rw [hz]
      rw [e, next_neg_one, num_neg_one, share_outside _ (BitVec.ofInt 32 (-1)) _ _ _ _ (inside_neg_one _), zero_add,
        weight_eq _ _ _ _ (1 - d : ℝ) (by rw [hz]; push_cast; ring), e0, share_inside,
        if_neg (fun hh : 0 < x.val ∧ _ => by omega), add_zero]
    · obtain ⟨k, hk⟩ : ∃ k, x.val = k + 1 := ⟨x.val - 1, by omega⟩
      have e : ((x.val : ℤ) - 1) = ((⟨k, by omega⟩ : Fin 512).val : ℤ) := by simp only []; omega
      have en : BitVec.ofNat 32 (k + 1) = BitVec.ofNat 32 x.val := by rw [hk]
      rw [e, ofInt_nat, next_ofNat, num_ofNat _ (by simp only []; omega), num_ofNat _ (by simp only []; omega),
        weight_eq _ _ _ _ (d : ℝ) (by rw [hk]; push_cast; ring),
        weight_eq _ _ _ _ (1 - d : ℝ) (by rw [hk]; push_cast; ring), share_inside, en, share_inside, add_comm]
      congr 1
      refine if_congr ?_ rfl rfl
      simp only []
      omega

end Cert.Pixel

end
-- ==== Proof.Gather.lean ====
/-
  The flat picture: its 4 · 512 · 512 rows as (batch element, line, column), and the sum over all of them of what the
  splat of a disparity between zero and one brings to one row.
-/
module

public import Idealize.ShloMosaic.PureOps.Ideal

@[expose] public section

noncomputable section

open scoped BigOperators

namespace Cert.Gather

/-- The row of the flat picture at batch element `b`, line `y`, column `x`. -/
def row (b : Fin 4) (y x : Fin 512) : Fin 1048576 :=
  ⟨(b.val * 512 + y.val) * 512 + x.val, by have := b.isLt; have := y.isLt; have := x.isLt; omega⟩

/-- The batch element of a row. -/
def bat (n : Fin 1048576) : Fin 4 := ⟨n.val / 262144, by have := n.isLt; omega⟩
/-- The line of a row. -/
def line (n : Fin 1048576) : Fin 512 := ⟨n.val / 512 % 512, Nat.mod_lt _ (by decide)⟩
/-- The column of a row. -/
def col (n : Fin 1048576) : Fin 512 := ⟨n.val % 512, Nat.mod_lt _ (by decide)⟩

/-- Every row has its three coordinates. -/
theorem row_coords (n : Fin 1048576) : row (bat n) (line n) (col n) = n := by
  apply Fin.ext
  show (n.val / 262144 * 512 + n.val / 512 % 512) * 512 + n.val % 512 = n.val
  omega

/-- The coordinates of a row given by coordinates. -/
theorem bat_row (b : Fin 4) (y x : Fin 512) : bat (row b y x) = b := by
  have := y.isLt
  have := x.isLt
  apply Fin.ext
  show ((b.val * 512 + y.val) * 512 + x.val) / 262144 = b.val
  omega

/-- The line of the row that stands for a pixel is the pixel's line. -/
theorem line_row (b : Fin 4) (y x : Fin 512) : line (row b y x) = y := by
  have := y.isLt
  have := x.isLt
  apply Fin.ext
  show ((b.val * 512 + y.val) * 512 + x.val) / 512 % 512 = y.val
  omega

/-- Its column is the pixel's column. -/
theorem col_row (b : Fin 4) (y x : Fin 512) : col (row b y x) = x := by
  have := x.isLt
  apply Fin.ext
  show ((b.val * 512 + y.val) * 512 + x.val) % 512 = x.val
  omega

/-- When every pixel leaves `A` at its own row and brings `B` to the row before in its line, the row of the pixel
    `(b, y, x)` gets its own `A` and its right neighbour's `B`. -/
theorem sum_arrives (A B : Fin 4 → Fin 512 → Fin 512 → EReal) (b : Fin 4) (y x : Fin 512) :
    ∑ n : Fin 1048576,
        ((if (((bat n).val * 512 + (line n).val) * 512 + (col n).val : ℕ) = ((row b y x).val : ℤ)
            then A (bat n) (line n) (col n) else 0)
          + (if 0 < (col n).val ∧ ((((bat n).val * 512 + (line n).val) * 512 + (col n).val : ℕ) : ℤ)
                = ((row b y x).val : ℤ) + 1 then B (bat n) (line n) (col n) else 0))
      = A b y x + (if h : x.val + 1 < 512 then B b y ⟨x.val + 1, h⟩ else 0) := by
  have hn : ∀ n : Fin 1048576, ((bat n).val * 512 + (line n).val) * 512 + (col n).val = n.val :=
    fun n => congrArg Fin.val (row_coords n)
  rw [Finset.sum_add_distrib]
  refine congrArg₂ (· + ·) ?_ ?_
  · rw [Finset.sum_eq_single (row b y x)]
    · rw [if_pos (by rw [hn]), bat_row, line_row, col_row]
    · intro n _ hne
      rw [if_neg]
      intro h
      rw [hn] at h
      exact hne (Fin.ext (by exact_mod_cast h))
    · intro h
      exact absurd (Finset.mem_univ _) h
  · have hr : (row b y x).val = (b.val * 512 + y.val) * 512 + x.val := rfl
    by_cases h : x.val + 1 < 512
    · rw [dif_pos h, Finset.sum_eq_single (row b y ⟨x.val + 1, h⟩)]
      · rw [bat_row, line_row, col_row, if_pos]
        refine ⟨Nat.succ_pos _, ?_⟩
        rw [hr]
        push_cast
        omega
      · intro n _ hne
        rw [if_neg]
        rintro ⟨_, h2⟩
        rw [hn, hr] at h2
        apply hne
        apply Fin.ext
        show n.val = (b.val * 512 + y.val) * 512 + (x.val + 1)
        omega
      · intro h'
        exact absurd (Finset.mem_univ _) h'
    · rw [dif_neg h]
      apply Finset.sum_eq_zero
      intro n _
      rw [if_neg]
      rintro ⟨h1, h2⟩
      rw [hn, hr] at h2
      have hc : (col n).val = n.val % 512 := rfl
      have := x.isLt
      omega

end Cert.Gather

end
-- ==== Proof.Corner.lean ====
/-
  One corner of the splat on whole arrays: the flat row each source pixel's corner names, the weight it is sent with,
  and the pixels laid out as rows. Each is read at one pixel here.
-/
module

public import proofs.«01_k».proof.Proof.Gen.ReferenceIdeal
public import Idealize.ShloMosaic.Lib.Pipeline.Value
public import Idealize.ShloMosaic.Lib.ValueIdx
public import proofs.«01_k».proof.Proof.Pixel
public import proofs.«01_k».proof.Proof.Gather

@[expose] public section

noncomputable section

namespace Cert.Corner

open Cert.ReferenceIdeal Cert.ReferenceIdeal.Gen Idealize.ShloMosaic Idealize.ShloMosaic.ValueIdx Cert.Words Cert.Pixel
  Cert.Gather

/-- The same word at every pixel. -/
def all (w : BitVec 32) : IVec S4x512x512 32 := broadcastInDim S4x512x512 ![] bcast_S_S4x512x512 (constantI S_ 32 w)

/-- The bit of the corners inside the picture, at every pixel. -/
def insides (dx dy : IVec S4x512x512 32) : IVec S4x512x512 1 :=
  andi (andi (andi (cmpi .sge dx (all 0#32)) (cmpi .slt dx (all 512#32))) (cmpi .sge dy (all 0#32)))
    (cmpi .slt dy (all 512#32))

/-- The offset of each batch element in the flat picture. -/
def offsets : IVec S4x262144 32 :=
  broadcastInDim S4x262144 ![0, 1] bcast_S4x1_S4x262144_0_1 (broadcastInDim S4x1 ![0] bcast_S4_S4x1_0
    (muli (iotaInDim S4 32 0) (broadcastInDim S4 ![] bcast_S_S4 (constantI S_ 32 262144#32))))

/-- The rows named by the clipped corners, before a negative one wraps around. -/
def places (dx dy : IVec S4x512x512 32) : IVec S1048576 32 :=
  shapeCast _ (addi (shapeCast _
    (addi (muli (minsi (all 511#32) (maxsi (all 0#32) dy)) (all 512#32)) (minsi (all 511#32) (maxsi (all 0#32) dx)))
    shapeCasts_S4x512x512_S4x262144) offsets) shapeCasts_S4x262144_S1048576

/-- The rows the corners are sent to, one per source pixel. -/
def slots (dx dy : IVec S4x512x512 32) : IVec S1048576x1 32 :=
  broadcastInDim S1048576x1 ![0] bcast_S1048576_S1048576x1_0
    (select (cmpi .slt (places dx dy) (broadcastInDim S1048576 ![] bcast_S_S1048576 (constantI S_ 32 0#32)))
      (addi (places dx dy) (broadcastInDim S1048576 ![] bcast_S_S1048576 (constantI S_ 32 1048576#32))) (places dx dy))

/-- The weights the corners are sent with, one per source pixel. -/
def gains (dx dy : IVec S4x512x512 32) (w : FVec Ideal S4x512x512 .f32) : FVec Ideal S1048576x1 .f32 :=
  broadcastInDim S1048576x1 ![0] bcast_S1048576_S1048576x1_0
    (shapeCast _ (mulf w (uitofp .f32 (insides dx dy))) shapeCasts_S4x512x512_S1048576)

/-- Three channels of a picture, weighted, one row per source pixel. -/
def sent3 (im : FVec Ideal S4x3x512x512 .f32) (dx dy : IVec S4x512x512 32) (w : FVec Ideal S4x512x512 .f32) :
    FVec Ideal S1048576x3 .f32 :=
  mulf (shapeCast _ (transpose S4x512x512x3 [0, 2, 3, 1] im transposes_S4x3x512x512_S4x512x512x3_0_2_3_1)
      shapeCasts_S4x512x512x3_S1048576x3)
    (broadcastInDim S1048576x3 ![0, 1] bcast_S1048576x1_S1048576x3_0_1 (gains dx dy w))

/-- One channel, weighted, one row per source pixel. -/
def sent1 (v : FVec Ideal S4x1x512x512 .f32) (dx dy : IVec S4x512x512 32) (w : FVec Ideal S4x512x512 .f32) :
    FVec Ideal S1048576x1 .f32 :=
  mulf (shapeCast _ (transpose S4x512x512x1 [0, 2, 3, 1] v transposes_S4x1x512x512_S4x512x512x1_0_2_3_1)
      shapeCasts_S4x512x512x1_S1048576x1) (gains dx dy w)

/-- A picture of one value per pixel, laid out as rows, read at a pixel's row. -/
theorem flatten_apply {α : Type} (v : S4x512x512.Idx → α) (b : Fin 4) (y x : Fin 512) :
    shapeCast S1048576 v shapeCasts_S4x512x512_S1048576 (ix1 (row b y x)) = v (ix3 b y x) := by
  refine shapeCast_apply v _ _ _ ?_
  rw [Shape.rowMajor_val_three, Shape.rowMajor_val_one]
  rfl

/-- The row named by a pixel's corner. -/
theorem places_apply (dx dy : IVec S4x512x512 32) (b : Fin 4) (y x : Fin 512) :
    places dx dy (ix1 (row b y x)) = flat (BitVec.ofNat 32 b.val) (dx (ix3 b y x)) (dy (ix3 b y x)) := by
  have hk : y.val * 512 + x.val < 262144 := by have := y.isLt; have := x.isLt; omega
  unfold places
  rw [shapeCast_apply _ _ (ix1 (row b y x)) (ix2 b ⟨y.val * 512 + x.val, hk⟩ : S4x262144.Idx) (by
    rw [Shape.rowMajor_val_two, Shape.rowMajor_val_one]
    show b.val * 262144 + (y.val * 512 + x.val) = (b.val * 512 + y.val) * 512 + x.val
    omega)]
  show IntOp.addi (shapeCast S4x262144 _ _ _) _ = _
  rw [shapeCast_apply _ _ (ix2 b ⟨y.val * 512 + x.val, hk⟩ : S4x262144.Idx) (ix3 b y x) (by
    rw [Shape.rowMajor_val_two, Shape.rowMajor_val_three]
    show (b.val * 512 + y.val) * 512 + x.val = b.val * 262144 + (y.val * 512 + x.val)
    omega)]
  rfl

/-- The row a pixel's corner is sent to. -/
theorem slots_apply (dx dy : IVec S4x512x512 32) (b : Fin 4) (y x : Fin 512) :
    slots dx dy (ix2 (row b y x) 0) = wrap (flat (BitVec.ofNat 32 b.val) (dx (ix3 b y x)) (dy (ix3 b y x))) := by
  rw [← places_apply dx dy b y x]
  unfold slots
  refine (broadcastInDim_apply _ _ _ (ix2 (row b y x) 0) (ix1 (row b y x)) ?_).trans rfl
  intro a
  match a with
  | ⟨0, _⟩ => rfl

/-- The weight a pixel's corner is sent with. -/
theorem gains_apply (dx dy : IVec S4x512x512 32) (w : FVec Ideal S4x512x512 .f32) (b : Fin 4) (y x : Fin 512) :
    gains dx dy w (ix2 (row b y x) 0) = w (ix3 b y x) * bit (inside (dx (ix3 b y x)) (dy (ix3 b y x))) := by
  unfold gains
  refine (broadcastInDim_apply _ _ _ (ix2 (row b y x) 0) (ix1 (row b y x)) ?_).trans ?_
  · intro a
    match a with
    | ⟨0, _⟩ => rfl
  rw [flatten_apply]
  rfl

/-- A weighted row of the picture, read at a channel. -/
theorem sent3_apply (im : FVec Ideal S4x3x512x512 .f32) (dx dy : IVec S4x512x512 32) (w : FVec Ideal S4x512x512 .f32)
    (b : Fin 4) (y x : Fin 512) (k : Fin 3) :
    sent3 im dx dy w (ix2 (row b y x) k)
      = im (ix4 b k y x) * (w (ix3 b y x) * bit (inside (dx (ix3 b y x)) (dy (ix3 b y x)))) := by
  rw [← gains_apply]
  unfold sent3
  show FloatOps.mulf (shapeCast S1048576x3 _ _ _) _ = _
  rw [shapeCast_apply _ _ (ix2 (row b y x) k) (ix4 b y x k : S4x512x512x3.Idx) (by
    rw [Shape.rowMajor_val_two, Shape.rowMajor_val_four]; rfl),
    transpose_apply _ _ _ (ix4 b y x k : S4x512x512x3.Idx) (ix4 b k y x) (by
      intro a
      match a with
      | ⟨0, _⟩ => rfl
      | ⟨1, _⟩ => rfl
      | ⟨2, _⟩ => rfl
      | ⟨3, _⟩ => rfl),
    broadcastInDim_apply _ _ _ (ix2 (row b y x) k) (ix2 (row b y x) 0) (by
      intro a
      match a with
      | ⟨0, _⟩ => rfl
      | ⟨1, _⟩ => rfl)]
  rfl

/-- A weighted row of the one channel. -/
theorem sent1_apply (v : FVec Ideal S4x1x512x512 .f32) (dx dy : IVec S4x512x512 32) (w : FVec Ideal S4x512x512 .f32)
    (b : Fin 4) (y x : Fin 512) :
    sent1 v dx dy w (ix2 (row b y x) 0)
      = v (ix4 b 0 y x) * (w (ix3 b y x) * bit (inside (dx (ix3 b y x)) (dy (ix3 b y x)))) := by
  rw [← gains_apply]
  unfold sent1
  show FloatOps.mulf (shapeCast S1048576x1 _ _ _) _ = _
  rw [shapeCast_apply _ _ (ix2 (row b y x) 0) (ix4 b y x 0 : S4x512x512x1.Idx) (by
    rw [Shape.rowMajor_val_two, Shape.rowMajor_val_four]; rfl),
    transpose_apply _ _ _ (ix4 b y x 0 : S4x512x512x1.Idx) (ix4 b 0 y x) (by
      intro a
      match a with
      | ⟨0, _⟩ => rfl
      | ⟨1, _⟩ => rfl
      | ⟨2, _⟩ => rfl
      | ⟨3, _⟩ => rfl)]
  rfl

end Cert.Corner

end
-- ==== Proof.Rows.lean ====
/-
  A scatter that adds whole rows into a matrix, read at one element: the element plus the sum of what the rows sent
  to it bring.
-/
module

public import Idealize.ShloMosaic.PureOps.Ideal
public import Idealize.ShloMosaic.Lib.ValueIdx
public import Idealize.ShloMosaic.Lib.Routing.OpsPair

@[expose] public section

noncomputable section

open scoped BigOperators

namespace Cert.Rows

open Idealize.ShloMosaic Idealize.ShloMosaic.ValueIdx

variable {N C w : Nat} (d : ScatterDims (⟨2, ![N, C]⟩ : Shape) (⟨2, ![N, 1]⟩ : Shape) (⟨2, ![N, C]⟩ : Shape))

/-- Entry `k` of row `n` of the updates lands at `(r, c)` exactly when row `n`'s index word, read signed, is `r` and
    `k` is `c`. -/
theorem lands (huw : d.updateWindowDims = [1]) (hiw : d.insertedWindowDims = [0]) (hsd : d.scatterDimsToOperandDims = [0])
    (hivd : d.indexVectorDim = 1) (idx : IVec (⟨2, ![N, 1]⟩ : Shape) w) (n : Fin N) (k : Fin C) (r : Fin N) (c : Fin C) :
    d.resultIdx? (ix2 n k) idx = some (ix2 r c) ↔ (idx (ix2 n 0)).toInt = r.val ∧ k = c := by
  obtain ⟨uw, iw, sd, iv, wf⟩ := d
  dsimp only at huw hiw hsd hivd
  subst huw hiw hsd hivd
  rw [Routing.resultIdx?_eq_some]
  have hstart0 : (ScatterDims.mk [1] [0] [0] 1 wf).start (ix2 n k) idx 0 = (idx (ix2 n 0)).toInt := by
    unfold ScatterDims.start
    rw [dif_pos (by simp)]
    congr 2
    funext b
    match b with
    | ⟨0, _⟩ => rfl
    | ⟨1, _⟩ => rfl
  have hstart1 : (ScatterDims.mk [1] [0] [0] 1 wf).start (ix2 n k) idx 1 = 0 := by
    unfold ScatterDims.start
    rw [dif_neg (by simp)]
  have hwin0 : (ScatterDims.mk [1] [0] [0] 1 wf).window (ix2 n k) 0 = 0 := rfl
  have hwin1 : (ScatterDims.mk [1] [0] [0] 1 wf).window (ix2 n k) 1 = k.val := rfl
  constructor
  · intro h
    have h0 := h 0
    have h1 := h 1
    rw [hstart0, hwin0] at h0
    rw [hstart1, hwin1] at h1
    refine ⟨?_, Fin.ext ?_⟩
    · have : ((ix2 r c : (⟨2, ![N, C]⟩ : Shape).Idx) 0).val = r.val := rfl
      omega
    · have : ((ix2 r c : (⟨2, ![N, C]⟩ : Shape).Idx) 1).val = c.val := rfl
      omega
  · rintro ⟨h0, rfl⟩ a
    match a with
    | ⟨0, _⟩ =>
      refine (congrArg₂ (· + ·) hstart0 (congrArg Nat.cast hwin0)).trans ?_
      show (idx (ix2 n 0)).toInt + ((0 : ℕ) : ℤ) = r.val
      omega
    | ⟨1, _⟩ =>
      refine (congrArg₂ (· + ·) hstart1 (congrArg Nat.cast hwin1)).trans ?_
      show (0 : ℤ) + (k.val : ℤ) = k.val
      omega

/-- The scatter at `(r, c)`: the operand's element, plus entry `c` of every row whose index word is `r`. -/
theorem scatterAdd_apply (huw : d.updateWindowDims = [1]) (hiw : d.insertedWindowDims = [0])
    (hsd : d.scatterDimsToOperandDims = [0]) (hivd : d.indexVectorDim = 1) (x : FVec Ideal (⟨2, ![N, C]⟩ : Shape) .f32)
    (idx : IVec (⟨2, ![N, 1]⟩ : Shape) w) (u : FVec Ideal (⟨2, ![N, C]⟩ : Shape) .f32) (r : Fin N) (c : Fin C) :
    Host.scatterAdd d x idx u (ix2 r c)
      = x (ix2 r c) + ∑ n : Fin N, if (idx (ix2 n 0)).toInt = r.val then (u (ix2 n c) : EReal) else 0 := by
  show x (ix2 r c) + ∑ j ∈ Finset.univ.filter (fun j => d.resultIdx? j idx = some (ix2 r c)), (u j : EReal) = _
  congr 1
  rw [Finset.sum_filter, sum_idx2]
  refine Finset.sum_congr rfl fun n _ => ?_
  simp only [lands d huw hiw hsd hivd]
  by_cases h : (idx (ix2 n 0)).toInt = r.val
  · simp [h]
  · simp [h]

end Cert.Rows

end
-- ==== Proof.Splat.lean ====
/-
  What one corner's scatter brings to a row of the flat picture, and the four corners together, when every disparity
  lies between zero and one: the pixel's own share and its right neighbour's.
-/
module

public import proofs.«01_k».proof.Proof.Corner
public import proofs.«01_k».proof.Proof.Rows

@[expose] public section

noncomputable section

open scoped BigOperators

namespace Cert.Splat

open Cert.ReferenceIdeal Cert.ReferenceIdeal.Gen Idealize.ShloMosaic Idealize.ShloMosaic.ValueIdx Cert.Words Cert.Pixel
  Cert.Gather Cert.Corner

/-- One corner's shares, summed over all source pixels. -/
def shares (v : Fin 4 → Fin 512 → Fin 512 → EReal) (dx dy : IVec S4x512x512 32) (w : FVec Ideal S4x512x512 .f32)
    (r : Fin 1048576) : EReal :=
  ∑ n : Fin 1048576, share (BitVec.ofNat 32 (bat n).val) (dx (ix3 (bat n) (line n) (col n)))
    (dy (ix3 (bat n) (line n) (col n))) (v (bat n) (line n) (col n)) (w (ix3 (bat n) (line n) (col n))) (r.val : ℤ)

/-- A scatter of the three weighted channels adds one corner's shares. -/
theorem scatter3_apply (acc : FVec Ideal S1048576x3 .f32) (im : FVec Ideal S4x3x512x512 .f32) (dx dy : IVec S4x512x512 32)
    (w : FVec Ideal S4x512x512 .f32) (r : Fin 1048576) (k : Fin 3) :
    (Host.scatterAdd scatter_S1048576x3_S1048576x1_S1048576x3_1_0_0_1 acc (slots dx dy) (sent3 im dx dy w) (ix2 r k) : EReal)
      = acc (ix2 r k) + shares (fun b y x => im (ix4 b k y x)) dx dy w r := by
  rw [Rows.scatterAdd_apply _ rfl rfl rfl rfl]
  refine congrArg₂ (· + ·) rfl (Finset.sum_congr rfl fun n _ => ?_)
  conv_lhs => rw [← row_coords n]
  rw [slots_apply, sent3_apply]
  rfl

/-- A scatter of the one weighted channel adds one corner's shares. -/
theorem scatter1_apply (acc : FVec Ideal S1048576x1 .f32) (v : FVec Ideal S4x1x512x512 .f32) (dx dy : IVec S4x512x512 32)
    (w : FVec Ideal S4x512x512 .f32) (r : Fin 1048576) :
    (Host.scatterAdd scatter_S1048576x1_S1048576x1_S1048576x1_1_0_0_1 acc (slots dx dy) (sent1 v dx dy w) (ix2 r 0) : EReal)
      = acc (ix2 r 0) + shares (fun b y x => v (ix4 b 0 y x)) dx dy w r := by
  rw [Rows.scatterAdd_apply _ rfl rfl rfl rfl]
  refine congrArg₂ (· + ·) rfl (Finset.sum_congr rfl fun n _ => ?_)
  conv_lhs => rw [← row_coords n]
  rw [slots_apply, sent1_apply]
  rfl

/-- The value a pixel ends with: its own share `v (1 - d)` and the share `v d` of its right neighbour in the line. -/
def warped (v : Fin 4 → Fin 512 → Fin 512 → EReal) (D : Fin 4 → Fin 512 → Fin 512 → ℝ) (b : Fin 4) (y x : Fin 512) : EReal :=
  v b y x * ((1 - D b y x : ℝ) : EReal)
    + (if h : x.val + 1 < 512 then v b y ⟨x.val + 1, h⟩ * ((D b y ⟨x.val + 1, h⟩ : ℝ) : EReal) else 0)

/-- The four corners' shares together, for the corners and weights the splat takes from the targets `(tx, ty)`. -/
theorem shares_add (v : Fin 4 → Fin 512 → Fin 512 → EReal) (D : Fin 4 → Fin 512 → Fin 512 → ℝ)
    (hD0 : ∀ b y x, 0 ≤ D b y x) (hD1 : ∀ b y x, D b y x ≤ 1)
    (X0 X1 Y0 Y1 : IVec S4x512x512 32) (tx ty wa wb wc wd : FVec Ideal S4x512x512 .f32)
    (htx : ∀ b y x, tx (ix3 b y x) = ((((x.val : ℝ) - D b y x : ℝ)) : EReal))
    (hty : ∀ b (y x : Fin 512), ty (ix3 b y x) = ((y.val : ℝ) : EReal))
    (hX0 : ∀ i, X0 i = floorWord (tx i)) (hX1 : ∀ i, X1 i = next (X0 i))
    (hY0 : ∀ i, Y0 i = floorWord (ty i)) (hY1 : ∀ i, Y1 i = next (Y0 i))
    (ha : ∀ i, wa i = ((num (X1 i) - tx i) * (num (Y1 i) - ty i) : EReal))
    (hb : ∀ i, wb i = ((num (X1 i) - tx i) * (ty i - num (Y0 i)) : EReal))
    (hc : ∀ i, wc i = ((tx i - num (X0 i)) * (num (Y1 i) - ty i) : EReal))
    (hd : ∀ i, wd i = ((tx i - num (X0 i)) * (ty i - num (Y0 i)) : EReal))
    (b : Fin 4) (y x : Fin 512) :
    shares v X0 Y0 wa (row b y x) + shares v X0 Y1 wb (row b y x) + shares v X1 Y0 wc (row b y x)
      + shares v X1 Y1 wd (row b y x) = warped v D b y x := by
  unfold shares
  rw [← Finset.sum_add_distrib, ← Finset.sum_add_distrib, ← Finset.sum_add_distrib]
  refine Eq.trans (Finset.sum_congr rfl fun n _ => ?_) (sum_arrives (fun b y x => v b y x * ((1 - D b y x : ℝ) : EReal))
    (fun b y x => v b y x * ((D b y x : ℝ) : EReal)) b y x)
  rw [← arrives_eq (bat n) (col n) (line n) (D (bat n) (line n) (col n)) (hD0 _ _ _) (hD1 _ _ _), ← htx, ← hty (bat n) (line n) (col n)]
  unfold arrives
  rw [ha, hb, hc, hd, hX1, hY1, hX0, hY0]

end Cert.Splat

end
-- ==== Proof.Stages.lean ====
/-
  The reference's stages under the names of the corner layer: both warps take the same targets, corners and weights,
  and each of their eight scatters sends the rows and weights the corner layer describes.
-/
module

public import proofs.«01_k».proof.Proof.Gen.ReferenceIdeal.Read
public import proofs.«01_k».proof.Proof.Splat

@[expose] public section

noncomputable section

namespace Cert.Stages

open Cert.ReferenceIdeal Cert.ReferenceIdeal.Gen Cert.ReferenceIdeal.Read Idealize.ShloMosaic Idealize.ShloMosaic.ValueIdx
  Cert.Words Cert.Pixel Cert.Gather Cert.Corner Cert.Splat

variable (im : FVec Ideal S4x3x512x512 .f32) (d : FVec Ideal S4x1x512x512 .f32)

/-- The second warp's horizontal targets are the first's. -/
theorem tx_again : val_main_v236 (F := Ideal) d = val_main_v22 (F := Ideal) d := rfl

/-- The second warp's vertical targets are the first's. -/
theorem ty_again : val_main_v241 (F := Ideal) d = val_main_v27 (F := Ideal) d := rfl

/-- The second warp's left corner columns are the first's. -/
theorem x0_again : val_main_v243 (F := Ideal) d = val_main_v29 (F := Ideal) d := rfl

/-- The second warp's right corner columns are the first's. -/
theorem x1_again : val_main_v245 (F := Ideal) d = val_main_v31 (F := Ideal) d := rfl

/-- The second warp's upper corner lines are the first's. -/
theorem y0_again : val_main_v247 (F := Ideal) d = val_main_v33 (F := Ideal) d := rfl

/-- The second warp's lower corner lines are the first's. -/
theorem y1_again : val_main_v249 (F := Ideal) d = val_main_v35 (F := Ideal) d := rfl

/-- The second warp's upper left corner's weights are the first's. -/
theorem wa_again : val_main_v254 (F := Ideal) d = val_main_v40 (F := Ideal) d := rfl

/-- The second warp's lower left corner's weights are the first's. -/
theorem wb_again : val_main_v259 (F := Ideal) d = val_main_v45 (F := Ideal) d := rfl

/-- The second warp's upper right corner's weights are the first's. -/
theorem wc_again : val_main_v264 (F := Ideal) d = val_main_v50 (F := Ideal) d := rfl

/-- The second warp's lower right corner's weights are the first's. -/
theorem wd_again : val_main_v269 (F := Ideal) d = val_main_v55 (F := Ideal) d := rfl

/-- The rows of the picture's scatter to the upper left corner. -/
theorem slots_a : val_main_v95 (F := Ideal) d = slots (val_main_v29 (F := Ideal) d) (val_main_v33 (F := Ideal) d) := rfl

/-- The rows of the picture's scatter to the lower left corner. -/
theorem slots_b : val_main_v135 (F := Ideal) d = slots (val_main_v29 (F := Ideal) d) (val_main_v35 (F := Ideal) d) := rfl

/-- The rows of the picture's scatter to the upper right corner. -/
theorem slots_c : val_main_v175 (F := Ideal) d = slots (val_main_v31 (F := Ideal) d) (val_main_v33 (F := Ideal) d) := rfl

/-- The rows of the picture's scatter to the lower right corner. -/
theorem slots_d : val_main_v215 (F := Ideal) d = slots (val_main_v31 (F := Ideal) d) (val_main_v35 (F := Ideal) d) := rfl

/-- What the picture's scatter to the upper left corner sends. -/
theorem sent_a : val_main_v89 (F := Ideal) im d = sent3 (val_main_v13 (F := Ideal) im d) (val_main_v29 (F := Ideal) d)
    (val_main_v33 (F := Ideal) d) (val_main_v40 (F := Ideal) d) := rfl

/-- What the picture's scatter to the lower left corner sends. -/
theorem sent_b : val_main_v129 (F := Ideal) im d = sent3 (val_main_v13 (F := Ideal) im d) (val_main_v29 (F := Ideal) d)
    (val_main_v35 (F := Ideal) d) (val_main_v45 (F := Ideal) d) := rfl

/-- What the picture's scatter to the upper right corner sends. -/
theorem sent_c : val_main_v169 (F := Ideal) im d = sent3 (val_main_v13 (F := Ideal) im d) (val_main_v31 (F := Ideal) d)
    (val_main_v33 (F := Ideal) d) (val_main_v50 (F := Ideal) d) := rfl

/-- What the picture's scatter to the lower right corner sends. -/
theorem sent_d : val_main_v209 (F := Ideal) im d = sent3 (val_main_v13 (F := Ideal) im d) (val_main_v31 (F := Ideal) d)
    (val_main_v35 (F := Ideal) d) (val_main_v55 (F := Ideal) d) := rfl

/-- The rows of the weight map's scatter to the upper left corner. -/
theorem mslots_a : val_main_v308 (F := Ideal) d = slots (val_main_v243 (F := Ideal) d) (val_main_v247 (F := Ideal) d) := rfl

/-- The rows of the weight map's scatter to the lower left corner. -/
theorem mslots_b : val_main_v347 (F := Ideal) d = slots (val_main_v243 (F := Ideal) d) (val_main_v249 (F := Ideal) d) := rfl

/-- The rows of the weight map's scatter to the upper right corner. -/
theorem mslots_c : val_main_v386 (F := Ideal) d = slots (val_main_v245 (F := Ideal) d) (val_main_v247 (F := Ideal) d) := rfl

/-- The rows of the weight map's scatter to the lower right corner. -/
theorem mslots_d : val_main_v425 (F := Ideal) d = slots (val_main_v245 (F := Ideal) d) (val_main_v249 (F := Ideal) d) := rfl

/-- What the weight map's scatter to the upper left corner sends. -/
theorem msent_a : val_main_v302 (F := Ideal) d = sent1 (val_main_v5 (F := Ideal) d) (val_main_v243 (F := Ideal) d)
    (val_main_v247 (F := Ideal) d) (val_main_v254 (F := Ideal) d) := rfl

/-- What the weight map's scatter to the lower left corner sends. -/
theorem msent_b : val_main_v341 (F := Ideal) d = sent1 (val_main_v5 (F := Ideal) d) (val_main_v243 (F := Ideal) d)
    (val_main_v249 (F := Ideal) d) (val_main_v259 (F := Ideal) d) := rfl

/-- What the weight map's scatter to the upper right corner sends. -/
theorem msent_c : val_main_v380 (F := Ideal) d = sent1 (val_main_v5 (F := Ideal) d) (val_main_v245 (F := Ideal) d)
    (val_main_v247 (F := Ideal) d) (val_main_v264 (F := Ideal) d) := rfl

/-- What the weight map's scatter to the lower right corner sends. -/
theorem msent_d : val_main_v419 (F := Ideal) d = sent1 (val_main_v5 (F := Ideal) d) (val_main_v245 (F := Ideal) d)
    (val_main_v249 (F := Ideal) d) (val_main_v269 (F := Ideal) d) := rfl

/-- The left corner column is the floor of the horizontal target. -/
theorem x0_apply (i : S4x512x512.Idx) : val_main_v29 (F := Ideal) d i = floorWord (val_main_v22 (F := Ideal) d i) := rfl

/-- The right corner column is the word after the left one. -/
theorem x1_apply (i : S4x512x512.Idx) : val_main_v31 (F := Ideal) d i = next (val_main_v29 (F := Ideal) d i) := rfl

/-- The upper corner line is the floor of the vertical target. -/
theorem y0_apply (i : S4x512x512.Idx) : val_main_v33 (F := Ideal) d i = floorWord (val_main_v27 (F := Ideal) d i) := rfl

/-- The lower corner line is the word after the upper one. -/
theorem y1_apply (i : S4x512x512.Idx) : val_main_v35 (F := Ideal) d i = next (val_main_v33 (F := Ideal) d i) := rfl

/-- The upper left corner's weight at one pixel: the product of the distances to the opposite corner. -/
theorem wa_apply (i : S4x512x512.Idx) : val_main_v40 (F := Ideal) d i
    = ((num (val_main_v31 (F := Ideal) d i) - val_main_v22 (F := Ideal) d i)
        * (num (val_main_v35 (F := Ideal) d i) - val_main_v27 (F := Ideal) d i) : EReal) := rfl

/-- The lower left corner's weight at one pixel. -/
theorem wb_apply (i : S4x512x512.Idx) : val_main_v45 (F := Ideal) d i
    = ((num (val_main_v31 (F := Ideal) d i) - val_main_v22 (F := Ideal) d i)
        * (val_main_v27 (F := Ideal) d i - num (val_main_v33 (F := Ideal) d i)) : EReal) := rfl

/-- The upper right corner's weight at one pixel. -/
theorem wc_apply (i : S4x512x512.Idx) : val_main_v50 (F := Ideal) d i
    = ((val_main_v22 (F := Ideal) d i - num (val_main_v29 (F := Ideal) d i))
        * (num (val_main_v35 (F := Ideal) d i) - val_main_v27 (F := Ideal) d i) : EReal) := rfl

/-- The lower right corner's weight at one pixel. -/
theorem wd_apply (i : S4x512x512.Idx) : val_main_v55 (F := Ideal) d i
    = ((val_main_v22 (F := Ideal) d i - num (val_main_v29 (F := Ideal) d i))
        * (val_main_v27 (F := Ideal) d i - num (val_main_v33 (F := Ideal) d i)) : EReal) := rfl

end Cert.Stages

end
-- ==== Proof.Targets.lean ====
/-
  Where the reference sends a pixel: its column less its disparity, and its own line.
-/
module

public import proofs.«01_k».proof.Proof.Gen.ReferenceIdeal.Read
public import Idealize.ShloMosaic.Lib.ValueIdx
public import Idealize.ShloMosaic.Lib.WordArith
public import Idealize.ShloMosaic.Lib.IdealHost
public import proofs.«01_k».proof.Proof.Consts

@[expose] public section

noncomputable section

namespace Cert.Targets

open Cert.ReferenceIdeal Cert.ReferenceIdeal.Gen Cert.ReferenceIdeal.Read Idealize.ShloMosaic Idealize.ShloMosaic.ValueIdx

variable (d : FVec Ideal S4x1x512x512 .f32)

/-- The number of a coordinate's word is the coordinate. -/
theorem sitofp_ofNat (x : Fin 512) : (FloatOps.sitofp .f32 (BitVec.ofNat 32 x.val) : Ideal .f32) = ((x.val : ℝ) : EReal) := by
  show (((BitVec.ofNat 32 x.val).toInt : ℝ) : EReal) = _
  rw [WordArith.toInt_ofNat_small x.val (by have := x.isLt; omega)]
  norm_cast

/-- The disparities without their channel axis. -/
theorem flat_disp (b : Fin 4) (y x : Fin 512) : val_main_v6 (F := Ideal) d (ix3 b y x) = d (ix4 b 0 y x) := by
  unfold val_main_v6
  refine shapeCast_apply _ _ _ _ ?_
  rw [Shape.rowMajor_val_four, Shape.rowMajor_val_three]
  show ((b.val * 1 + 0) * 512 + y.val) * 512 + x.val = (b.val * 512 + y.val) * 512 + x.val
  omega

/-- Of the joined flow field, the first component is the disparity negated … -/
theorem flow_x (b : Fin 4) (y x : Fin 512) :
    val_main_v11 (F := Ideal) d (ix4 b y x 0 : S4x512x512x2.Idx) = (-(d (ix4 b 0 y x)) : EReal) := by
  unfold val_main_v11
  refine (concatenate_pair_apply_left (t := S4x512x512x2) (s₁ := S4x512x512x1) (s₂ := S4x512x512x1) 3 _ _ _
    (ix4 b y x 0) rfl (ix4 b y x 0 : S4x512x512x1.Idx) (fun a => match a with
    | ⟨0, _⟩ => rfl
    | ⟨1, _⟩ => rfl
    | ⟨2, _⟩ => rfl
    | ⟨3, _⟩ => rfl)).trans ?_
  rw [val_main_v9_apply, val_main_v7_apply, show idx_main_v9 (ix4 b y x 0 : S4x512x512x1.Idx) = ix3 b y x from by
    funext a
    match a with
    | ⟨0, _⟩ => rfl
    | ⟨1, _⟩ => rfl
    | ⟨2, _⟩ => rfl, flat_disp]
  rfl

/-- … and the second is zero. -/
theorem flow_y (b : Fin 4) (y x : Fin 512) :
    val_main_v11 (F := Ideal) d (ix4 b y x 1 : S4x512x512x2.Idx) = (0 : EReal) := by
  unfold val_main_v11
  refine (concatenate_pair_apply_right (t := S4x512x512x2) (s₁ := S4x512x512x1) (s₂ := S4x512x512x1) 3 _ _ _
    (ix4 b y x 1) rfl rfl (ix4 b y x 0 : S4x512x512x1.Idx) (fun a ha => match a with
    | ⟨0, _⟩ => rfl
    | ⟨1, _⟩ => rfl
    | ⟨2, _⟩ => rfl
    | ⟨3, _⟩ => absurd rfl ha) rfl).trans ?_
  exact Ideal.ofBits_zero_f32

/-- A pixel's target column. -/
theorem tx_apply (b : Fin 4) (y x : Fin 512) (r : ℝ) (hr : d (ix4 b 0 y x) = (r : EReal)) :
    val_main_v22 (F := Ideal) d (ix3 b y x) = (((x.val : ℝ) - r : ℝ) : EReal) := by
  rw [val_main_v22_apply]
  have e1 : val_main_v21 (F := Ideal) (ix3 b y x) = ((x.val : ℝ) : EReal) := by
    rw [val_main_v21_apply, val_main_v18_apply, val_main_v17_apply]
    exact sitofp_ofNat x
  have e2 : val_main_v20 (F := Ideal) d (ix3 b y x) = ((-r : ℝ) : EReal) := by
    unfold val_main_v20
    rw [shapeCast_apply _ _ (ix3 b y x) (ix4 b y x 0 : S4x512x512x1.Idx) (by
      rw [Shape.rowMajor_val_four, Shape.rowMajor_val_three]
      show ((b.val * 512 + y.val) * 512 + x.val) * 1 + 0 = (b.val * 512 + y.val) * 512 + x.val
      omega), val_main_v19_apply,
      show idx_main_v19 (ix4 b y x 0 : S4x512x512x1.Idx) = (ix4 b y x 0 : S4x512x512x2.Idx) from by
        funext a
        match a with
        | ⟨0, _⟩ => rfl
        | ⟨1, _⟩ => rfl
        | ⟨2, _⟩ => rfl
        | ⟨3, _⟩ => rfl, flow_x, hr, EReal.coe_neg]
  rw [e1, e2, sub_eq_add_neg, EReal.coe_add]
  rfl

/-- A pixel's target line. -/
theorem ty_apply (b : Fin 4) (y x : Fin 512) : val_main_v27 (F := Ideal) d (ix3 b y x) = ((y.val : ℝ) : EReal) := by
  rw [val_main_v27_apply]
  have e1 : val_main_v26 (F := Ideal) (ix3 b y x) = ((y.val : ℝ) : EReal) := by
    rw [val_main_v26_apply, val_main_v23_apply, val_main_v16_apply]
    exact sitofp_ofNat y
  have e2 : val_main_v25 (F := Ideal) d (ix3 b y x) = (0 : EReal) := by
    unfold val_main_v25
    rw [shapeCast_apply _ _ (ix3 b y x) (ix4 b y x 0 : S4x512x512x1.Idx) (by
      rw [Shape.rowMajor_val_four, Shape.rowMajor_val_three]
      show ((b.val * 512 + y.val) * 512 + x.val) * 1 + 0 = (b.val * 512 + y.val) * 512 + x.val
      omega), val_main_v24_apply,
      show idx_main_v24 (ix4 b y x 0 : S4x512x512x1.Idx) = (ix4 b y x 1 : S4x512x512x2.Idx) from by
        funext a
        match a with
        | ⟨0, _⟩ => rfl
        | ⟨1, _⟩ => rfl
        | ⟨2, _⟩ => rfl
        | ⟨3, _⟩ => rfl, flow_y]
  rw [e1, e2]
  exact add_zero _

end Cert.Targets

end
-- ==== Proof.Reference.lean ====
/-
  The reference's result at one pixel: the mix of the pixel and its right neighbour.
-/
module

public import proofs.«01_k».proof.Proof.Stages
public import proofs.«01_k».proof.Proof.Targets
public import proofs.«01_k».proof.Proof.Mix

@[expose] public section

noncomputable section

namespace Cert.Reference

open Cert.ReferenceIdeal Cert.ReferenceIdeal.Gen Cert.ReferenceIdeal.Read Idealize.ShloMosaic Idealize.ShloMosaic.ValueIdx
  Cert.Pixel Cert.Gather Cert.Corner Cert.Splat Cert.Stages Cert.Mix Cert.Consts

variable (im : FVec Ideal S4x3x512x512 .f32) (d : FVec Ideal S4x1x512x512 .f32)

/-- The base of the powers is 1.414 itself. -/
theorem base_apply (i : S_.Idx) : val_main_v3 (F := Ideal) i = (base : EReal) := by
  rw [val_main_v3_apply]
  show Ideal.div (Ideal.ofBits .f32 0x44B0C000#32) (Ideal.ofBits .f32 0x447A0000#32) = _
  rw [ofBits_1414, ofBits_1000, Ideal.div_coe (by norm_num), ← EReal.coe_mul]
  unfold base
  norm_num

/-- A pixel's weight. -/
theorem weight_apply (b : Fin 4) (y x : Fin 512) (r μ : ℝ) (hr : d (ix4 b 0 y x) = (r : EReal))
    (hμ : val_main_v0 (F := Ideal) d ix0 = (μ : EReal)) :
    val_main_v5 (F := Ideal) d (ix4 b 0 y x) = ((base ^ (r - μ) : ℝ) : EReal) := by
  rw [val_main_v5_apply, val_main_v4_apply, base_apply, val_main_v2_apply, val_main_v1_apply]
  show Ideal.pow (base : EReal) (d (ix4 b 0 y x) - val_main_v0 (F := Ideal) d _) = _
  have e : ∀ j : S_.Idx, val_main_v0 (F := Ideal) d j = (μ : EReal) := fun j => by
    rw [show j = ix0 from funext fun a => a.elim0]; exact hμ
  rw [hr, e, ← EReal.coe_sub, Ideal.pow_coe_coe]
  rfl

section

variable (D : Fin 4 → Fin 512 → Fin 512 → ℝ) (hD : ∀ b y x, d (ix4 b 0 y x) = (D b y x : EReal))
  (hD0 : ∀ b y x, 0 ≤ D b y x) (hD1 : ∀ b y x, D b y x ≤ 1)

include hD hD0 hD1

/-- The splatted picture, row by row. -/
theorem picture_row (b : Fin 4) (y x : Fin 512) (k : Fin 3) :
    val_main_v216 (F := Ideal) im d (ix2 (row b y x) k)
      = warped (fun b y x => val_main_v13 (F := Ideal) im d (ix4 b k y x)) D b y x := by
  have z : val_main_v62 (F := Ideal) (ix2 (row b y x) k) = (0 : EReal) := Ideal.ofBits_zero_f32
  unfold val_main_v216 val_main_v176 val_main_v136 val_main_v96
  rw [slots_a, slots_b, slots_c, slots_d, sent_a, sent_b, sent_c, sent_d]
  rw [scatter3_apply, scatter3_apply, scatter3_apply, scatter3_apply, z, zero_add]
  exact shares_add _ D hD0 hD1 _ _ _ _ _ _ _ _ _ _ (fun b y x => Targets.tx_apply d b y x _ (hD b y x))
    (fun b y x => Targets.ty_apply d b y x) (x0_apply d) (x1_apply d) (y0_apply d) (y1_apply d) (wa_apply d) (wb_apply d)
    (wc_apply d) (wd_apply d) b y x

/-- The splatted weights, row by row. -/
theorem weights_row (b : Fin 4) (y x : Fin 512) :
    val_main_v426 (F := Ideal) d (ix2 (row b y x) 0)
      = warped (fun b y x => val_main_v5 (F := Ideal) d (ix4 b 0 y x)) D b y x := by
  have z : val_main_v276 (F := Ideal) (ix2 (row b y x) 0) = (0 : EReal) := Ideal.ofBits_zero_f32
  unfold val_main_v426 val_main_v387 val_main_v348 val_main_v309
  rw [mslots_a, mslots_b, mslots_c, mslots_d, msent_a, msent_b, msent_c, msent_d, x0_again, x1_again, y0_again, y1_again,
    wa_again, wb_again, wc_again, wd_again]
  rw [scatter1_apply, scatter1_apply, scatter1_apply, scatter1_apply, z, zero_add]
  exact shares_add _ D hD0 hD1 _ _ _ _ _ _ _ _ _ _ (fun b y x => Targets.tx_apply d b y x _ (hD b y x))
    (fun b y x => Targets.ty_apply d b y x) (x0_apply d) (x1_apply d) (y0_apply d) (y1_apply d) (wa_apply d) (wb_apply d)
    (wc_apply d) (wd_apply d) b y x

end

/-- The splatted picture, in the picture's own axes. -/
theorem picture_apply (b : Fin 4) (k : Fin 3) (y x : Fin 512) :
    val_main_v226 (F := Ideal) im d (ix4 b k y x) = val_main_v216 (F := Ideal) im d (ix2 (row b y x) k) := by
  have hk : y.val * 512 + x.val < 262144 := by have := y.isLt; have := x.isLt; omega
  unfold val_main_v226 val_main_v225 val_main_v224
  generalize val_main_v216 (F := Ideal) im d = v
  rw [shapeCast_apply _ _ (ix4 b k y x) (ix3 b k ⟨y.val * 512 + x.val, hk⟩ : S4x3x262144.Idx) (by
      rw [Shape.rowMajor_val_three, Shape.rowMajor_val_four]
      show (b.val * 3 + k.val) * 262144 + (y.val * 512 + x.val) = ((b.val * 3 + k.val) * 512 + y.val) * 512 + x.val
      omega),
    transpose_apply _ _ _ (ix3 b k ⟨y.val * 512 + x.val, hk⟩ : S4x3x262144.Idx)
      (ix3 b ⟨y.val * 512 + x.val, hk⟩ k : S4x262144x3.Idx) (fun a => match a with
        | ⟨0, _⟩ => rfl
        | ⟨1, _⟩ => rfl
        | ⟨2, _⟩ => rfl),
    shapeCast_apply _ _ (ix3 b ⟨y.val * 512 + x.val, hk⟩ k : S4x262144x3.Idx) (ix2 (row b y x) k) (by
      rw [Shape.rowMajor_val_three, Shape.rowMajor_val_two]
      show ((b.val * 512 + y.val) * 512 + x.val) * 3 + k.val = (b.val * 262144 + (y.val * 512 + x.val)) * 3 + k.val
      omega)]

/-- The splatted weights, in the picture's own axes. -/
theorem weights_apply (b : Fin 4) (y x : Fin 512) :
    val_main_v436 (F := Ideal) d (ix4 b 0 y x) = val_main_v426 (F := Ideal) d (ix2 (row b y x) 0) := by
  have hk : y.val * 512 + x.val < 262144 := by have := y.isLt; have := x.isLt; omega
  unfold val_main_v436 val_main_v435 val_main_v434
  generalize val_main_v426 (F := Ideal) d = v
  rw [shapeCast_apply _ _ (ix4 b 0 y x) (ix3 b 0 ⟨y.val * 512 + x.val, hk⟩ : S4x1x262144.Idx) (by
      rw [Shape.rowMajor_val_three, Shape.rowMajor_val_four]
      show (b.val * 1 + 0) * 262144 + (y.val * 512 + x.val) = ((b.val * 1 + 0) * 512 + y.val) * 512 + x.val
      omega),
    transpose_apply _ _ _ (ix3 b 0 ⟨y.val * 512 + x.val, hk⟩ : S4x1x262144.Idx)
      (ix3 b ⟨y.val * 512 + x.val, hk⟩ 0 : S4x262144x1.Idx) (fun a => match a with
        | ⟨0, _⟩ => rfl
        | ⟨1, _⟩ => rfl
        | ⟨2, _⟩ => rfl),
    shapeCast_apply _ _ (ix3 b ⟨y.val * 512 + x.val, hk⟩ 0 : S4x262144x1.Idx) (ix2 (row b y x) 0) (by
      rw [Shape.rowMajor_val_three, Shape.rowMajor_val_two]
      show ((b.val * 512 + y.val) * 512 + x.val) * 1 + 0 = (b.val * 262144 + (y.val * 512 + x.val)) * 1 + 0
      omega)]

/-- The weighted picture. -/
theorem weighted_apply (b : Fin 4) (k : Fin 3) (y x : Fin 512) :
    val_main_v13 (F := Ideal) im d (ix4 b k y x) = (im (ix4 b k y x) * val_main_v5 (F := Ideal) d (ix4 b 0 y x) : EReal) := by
  rw [val_main_v13_apply, val_main_v12_apply, show idx_main_v12 (ix4 b k y x) = (ix4 b 0 y x : S4x1x512x512.Idx) from by
    funext a
    match a with
    | ⟨0, _⟩ => rfl
    | ⟨1, _⟩ => rfl
    | ⟨2, _⟩ => rfl
    | ⟨3, _⟩ => rfl]
  rfl

/-- The quotient. -/
theorem quotient_apply (b : Fin 4) (k : Fin 3) (y x : Fin 512) :
    val_main_v441 (F := Ideal) im d (ix4 b k y x)
      = Ideal.div (val_main_v226 (F := Ideal) im d (ix4 b k y x))
          (max (val_main_v436 (F := Ideal) d (ix4 b 0 y x) : EReal) (eps : EReal)) := by
  rw [val_main_v441_apply, val_main_v440_apply,
    show idx_main_v440 (ix4 b k y x) = (ix4 b 0 y x : S4x1x512x512.Idx) from by
      funext a
      match a with
      | ⟨0, _⟩ => rfl
      | ⟨1, _⟩ => rfl
      | ⟨2, _⟩ => rfl
      | ⟨3, _⟩ => rfl, val_main_v439_apply, ← ofBits_eps]
  rfl

/-- The reference's result at one pixel is the mix along the pixel's line. -/
theorem result_apply (D : Fin 4 → Fin 512 → Fin 512 → ℝ) (μ : ℝ) (hD : ∀ b y x, d (ix4 b 0 y x) = (D b y x : EReal))
    (hD0 : ∀ b y x, 0 ≤ D b y x) (hD1 : ∀ b y x, D b y x ≤ 1) (hm : val_main_v0 (F := Ideal) d ix0 = (μ : EReal))
    (hμ : 0 ≤ μ) (hle : ∀ b y x, μ ≤ D b y x)
    (hpre : ∀ b y (x : Fin 512), eps ≤ (1 - D b y x) + (if h : x.val + 1 < 512 then D b y ⟨x.val + 1, h⟩ else 0) ∨ μ = 0)
    (b : Fin 4) (k : Fin 3) (y x : Fin 512) :
    val_main_v441 (F := Ideal) im d (ix4 b k y x) = mix (fun x => im (ix4 b k y x)) (D b y) x := by
  rw [quotient_apply, picture_apply, weights_apply, picture_row im d D hD hD0 hD1, weights_row d D hD hD0 hD1]
  have hp := hpre b y x
  unfold warped mix
  by_cases h : x.val + 1 < 512
  · rw [dif_pos h] at hp
    rw [dif_pos h, dif_pos h, dif_pos h]
    beta_reduce
    rw [weighted_apply, weighted_apply, weight_apply d b y x _ μ (hD b y x) hm,
      weight_apply d b y ⟨x.val + 1, h⟩ _ μ (hD b y _) hm]
    exact inner_eq _ _ _ _ μ (hD0 _ _ _) (hD1 _ _ _) (hD0 _ _ _) hμ (hle _ _ _) (hle _ _ _) hp
  · rw [dif_neg h, add_zero] at hp
    rw [dif_neg h, dif_neg h, dif_neg h, add_zero, add_zero]
    beta_reduce
    rw [weighted_apply, weight_apply d b y x _ μ (hD b y x) hm]
    exact last_eq _ _ μ (hD0 _ _ _) (hD1 _ _ _) hμ (hle _ _ _) hp

end Cert.Reference

end
-- ==== Proof.Smallest.lean ====
/-
  The smallest disparity: a minimum over all elements of an array of numbers between zero and one is itself such a
  number, and none of the elements lies below it.
-/
module

public import Idealize.ShloMosaic.PureOps.Ideal
public import Idealize.ShloMosaic.PureOps.Reduce
public import Idealize.ShloMosaic.PureOps.Ideal.Laws
public import proofs.«01_k».proof.Proof.Consts

@[expose] public section

noncomputable section

namespace Cert.Smallest

open Idealize.ShloMosaic

/-- A minimum over a whole array, from `+∞`, of numbers between zero and one. -/
theorem reduce_min {s : Shape} {axes : List (Fin s.rank)} (x : FVec Ideal s .f32) (h : s.ReducesTo axes (⟨0, ![]⟩ : Shape))
    (hu : 0 < (⟨0, ![]⟩ : Shape).numel) (j : (⟨0, ![]⟩ : Shape).Idx) (i₀ : s.Idx)
    (h0 : ∀ i, (0 : EReal) ≤ x i) (h1 : ∀ i, (x i : EReal) ≤ 1) :
    ∃ μ : ℝ, Host.reduce FloatOps.minimumf x (constant (F := Ideal) (⟨0, ![]⟩ : Shape) .f32 0x7F800000#32) h hu j = (μ : EReal)
      ∧ 0 ≤ μ ∧ ∀ i, (μ : EReal) ≤ x i := by
  have e : Host.reduce FloatOps.minimumf x (constant (F := Ideal) (⟨0, ![]⟩ : Shape) .f32 0x7F800000#32) h hu j
      = (Finset.univ.filter fun i => h.drop i = j).fold min (⊤ : EReal) x := by
    rw [Host.reduce_eq_fold]
    show Finset.fold min (Ideal.ofBits .f32 0x7F800000#32) x _ = _
    rw [Consts.ofBits_top]
  have hm : ∀ i, i ∈ Finset.univ.filter fun i => h.drop i = j := fun i =>
    Finset.mem_filter.2 ⟨Finset.mem_univ _, funext fun a => a.elim0⟩
  have lo : (0 : EReal) ≤ (Finset.univ.filter fun i => h.drop i = j).fold min (⊤ : EReal) x :=
    Finset.le_fold_min (0 : EReal) |>.2 ⟨le_top, fun i _ => h0 i⟩
  have hi : ∀ i, (Finset.univ.filter fun i => h.drop i = j).fold min (⊤ : EReal) x ≤ x i := fun i =>
    Finset.fold_min_le (x i : EReal) |>.2 (Or.inr ⟨i, hm i, le_refl _⟩)
  rw [e]
  generalize (Finset.univ.filter fun i => h.drop i = j).fold min (⊤ : EReal) x = μ at lo hi
  have ht : μ ≤ 1 := (hi i₀).trans (h1 i₀)
  induction μ with
  | bot => exact absurd lo (by simp)
  | top => exact absurd ht (not_le.2 (EReal.coe_lt_top 1))
  | coe r => exact ⟨r, rfl, by exact_mod_cast lo, hi⟩

end Cert.Smallest

end
-- ==== Proof.Disparity.lean ====
/-
  What the precondition says, in numbers: every disparity is a real between zero and one, and either the smallest one is
  zero or every pixel receives at least the floor of the weight sum.
-/
module

public import proofs.«01_k».proof.Proof.Gen.Pre_unit_disparity
public import Idealize.ShloMosaic.Lib.Pipeline.Value
public import Idealize.ShloMosaic.Lib.ValueIdx
public import Idealize.ShloMosaic.Lib.IdealHost
public import proofs.«01_k».proof.Proof.Smallest

@[expose] public section

noncomputable section

namespace Cert.Disparity

open Cert.Pre_unit_disparity Cert.Pre_unit_disparity.Gen Idealize.ShloMosaic Idealize.ShloMosaic.ValueIdx Cert.Consts

/-- A conjunction of bits is set when both are. -/
theorem andi_one : ∀ a b : BitVec 1, IntOp.andi a b = 1#1 → a = 1#1 ∧ b = 1#1 := by decide

/-- A disjunction of bits is set when one of them is. -/
theorem ori_one : ∀ a b : BitVec 1, IntOp.ori a b = 1#1 → a = 1#1 ∨ b = 1#1 := by decide

/-- A set bit of the comparison `≥` says that it holds. -/
theorem of_oge (x y : EReal) (h : Ideal.cmp .oge x y = 1#1) : y ≤ x := by
  by_contra hc
  simp [Ideal.cmp, hc] at h

/-- A set bit of the comparison `≤` says that it holds. -/
theorem of_ole (x y : EReal) (h : Ideal.cmp .ole x y = 1#1) : x ≤ y := by
  by_contra hc
  simp [Ideal.cmp, hc] at h

/-- A set bit of an equality says that it holds. -/
theorem of_oeq (x y : EReal) (h : Ideal.cmp .oeq x y = 1#1) : x = y := by
  by_contra hc
  simp [Ideal.cmp, hc] at h

/-- The same of two arrays compared at one index. -/
theorem of_cmpf_oeq (u v : FVec Ideal S_ .f32) (i : S_.Idx) (h : cmpf .oeq u v i = 1#1) : u i = v i :=
  of_oeq (u i) (v i) h

/-- The right neighbour's number in the line, zero in the last column. -/
def right (D : Fin 4 → Fin 512 → Fin 512 → ℝ) (b : Fin 4) (y x : Fin 512) : ℝ :=
  if h : x.val + 1 < 512 then D b y ⟨x.val + 1, h⟩ else 0

variable (d : FVec Ideal S4x1x512x512 .f32)

/-- The disparities without their channel axis. -/
theorem flat_disp (b : Fin 4) (y x : Fin 512) :
    shapeCast S4x512x512 d Facts.shapeCasts_S4x1x512x512_S4x512x512 (ix3 b y x) = d (ix4 b 0 y x) := by
  refine shapeCast_apply _ _ _ _ ?_
  rw [Shape.rowMajor_val_four, Shape.rowMajor_val_three]
  show ((b.val * 1 + 0) * 512 + y.val) * 512 + x.val = (b.val * 512 + y.val) * 512 + x.val
  omega

/-- The disparities moved one column to the left, a zero column joined on. -/
def moved : FVec Ideal S4x512x512 .f32 :=
  concatenate S4x512x512 2 [⟨S4x512x511, extractStridedSlice S4x512x511 ![0, 0, 1]
      (shapeCast S4x512x512 d Facts.shapeCasts_S4x1x512x512_S4x512x512) Facts.slices_S4x512x512_S4x512x511_0_0_1⟩,
    ⟨S4x512x1, broadcastInDim S4x512x1 ![] Facts.bcast_S_S4x512x1 (constant S_ .f32 0x00000000#32)⟩]
    Facts.concatenates_S4x512x511_S4x512x1_S4x512x512_d2

/-- The disparities moved one column to the left, read at one pixel: the right neighbour's, or zero in the last column. -/
theorem moved_apply (D : Fin 4 → Fin 512 → Fin 512 → ℝ) (hD : ∀ b y x, d (ix4 b 0 y x) = (D b y x : EReal))
    (b : Fin 4) (y x : Fin 512) : moved d (ix3 b y x) = (right D b y x : EReal) := by
  unfold moved right
  by_cases h : x.val + 1 < 512
  · rw [dif_pos h]
    refine (concatenate_pair_apply_left (t := S4x512x512) (s₁ := S4x512x511) (s₂ := S4x512x1) 2 _ _ _ (ix3 b y x) rfl
      (ix3 b y ⟨x.val, by omega⟩ : S4x512x511.Idx) (fun a => match a with
        | ⟨0, _⟩ => rfl
        | ⟨1, _⟩ => rfl
        | ⟨2, _⟩ => rfl)).trans ?_
    rw [extractStridedSlice_apply _ _ _ _ (ix3 b y ⟨x.val + 1, h⟩ : S4x512x512.Idx) (fun a => match a with
      | ⟨0, _⟩ => (Nat.zero_add _).symm
      | ⟨1, _⟩ => (Nat.zero_add _).symm
      | ⟨2, _⟩ => Nat.add_comm _ _), flat_disp, hD]
  · rw [dif_neg h]
    have hx : x.val = 511 := by have := x.isLt; omega
    refine (concatenate_pair_apply_right (t := S4x512x512) (s₁ := S4x512x511) (s₂ := S4x512x1) 2 _ _ _ (ix3 b y x) rfl rfl
      (ix3 b y 0 : S4x512x1.Idx) (fun a ha => match a with
        | ⟨0, _⟩ => rfl
        | ⟨1, _⟩ => rfl
        | ⟨2, _⟩ => absurd rfl ha) (by show 0 + 511 = x.val; omega)).trans ?_
    exact Ideal.ofBits_zero_f32

/-- The smallest disparity, as the programs compute it. -/
def smallest : Ideal .f32 :=
  Host.reduce FloatOps.minimumf d (constant (F := Ideal) S_ .f32 0x7F800000#32) Facts.reducesTo_S4x1x512x512_S_d0_1_2_3 Facts.h_S_ ix0

/-- The precondition, in numbers. -/
theorem of_pre (im : FVec Ideal S4x3x512x512 .f32) (h : Cert.Pre_unit_disparity.fn (F := Ideal) im d = fun _ => 1#1) :
    ∃ (D : Fin 4 → Fin 512 → Fin 512 → ℝ) (μ : ℝ), (∀ b y x, d (ix4 b 0 y x) = (D b y x : EReal))
      ∧ (∀ b y x, 0 ≤ D b y x) ∧ (∀ b y x, D b y x ≤ 1)
      ∧ smallest d = (μ : EReal) ∧ 0 ≤ μ ∧ (∀ b y x, μ ≤ D b y x)
      ∧ ∀ b y x, eps ≤ (1 - D b y x) + right D b y x ∨ μ = 0 := by
  have bits : ∀ b y x, ((0 : EReal) ≤ d (ix4 b 0 y x) ∧ (d (ix4 b 0 y x) : EReal) ≤ 1)
      ∧ ((eps : EReal) ≤ (1 - d (ix4 b 0 y x)) + moved d (ix3 b y x) ∨ smallest d = (0 : EReal)) := by
    intro b y x
    obtain ⟨h12, h3⟩ := andi_one _ _ (congrFun h (ix3 b y x))
    obtain ⟨h1, h2⟩ := andi_one _ _ h12
    have h1' := of_oge _ _ h1
    have h2' := of_ole _ _ h2
    rw [flat_disp] at h1' h2'
    refine ⟨⟨le_trans (le_of_eq Ideal.ofBits_zero_f32.symm) h1', h2'.trans (le_of_eq Ideal.ofBits_one_f32)⟩, ?_⟩
    rcases ori_one _ _ h3 with h4 | h4
    · left
      have h4' := of_oge _ _ h4
      refine (le_of_eq ofBits_eps.symm).trans (h4'.trans (le_of_eq ?_))
      show Ideal.ofBits .f32 0x3F800000#32 - shapeCast S4x512x512 d _ (ix3 b y x) + moved d (ix3 b y x) = _
      rw [flat_disp, Ideal.ofBits_one_f32]
    · right
      rw [broadcastInDim_apply _ _ _ _ ix0 (fun a => a.elim0)] at h4
      unfold smallest
      exact (of_cmpf_oeq _ _ _ h4).trans Ideal.ofBits_zero_f32
  have real : ∀ b y x, ∃ r : ℝ, d (ix4 b 0 y x) = (r : EReal) ∧ 0 ≤ r ∧ r ≤ 1 := by
    intro b y x
    obtain ⟨⟨h0, h1⟩, _⟩ := bits b y x
    generalize d (ix4 b 0 y x) = v at h0 h1
    induction v using EReal.rec with
    | bot => exact absurd h0 (not_le.2 (EReal.bot_lt_coe 0))
    | top => exact absurd h1 (not_le.2 (EReal.coe_lt_top 1))
    | coe r => exact ⟨r, rfl, by exact_mod_cast h0, by exact_mod_cast h1⟩
  choose D hD hD0 hD1 using real
  have all : ∀ i : S4x1x512x512.Idx, ∃ b y x, i = ix4 b 0 y x := fun i =>
    ⟨i 0, i 2, i 3, funext fun a => match a with
      | ⟨0, _⟩ => rfl
      | ⟨1, _⟩ => Subsingleton.elim (α := Fin 1) _ _
      | ⟨2, _⟩ => rfl
      | ⟨3, _⟩ => rfl⟩
  obtain ⟨μ, hμ, hμ0, hle⟩ := Smallest.reduce_min d Facts.reducesTo_S4x1x512x512_S_d0_1_2_3 Facts.h_S_ ix0
    (ix4 0 0 0 0)
    (fun i => by obtain ⟨b, y, x, rfl⟩ := all i; exact (bits b y x).1.1)
    (fun i => by obtain ⟨b, y, x, rfl⟩ := all i; exact (bits b y x).1.2)
  refine ⟨D, μ, hD, hD0, hD1, hμ, hμ0, fun b y x => ?_, fun b y x => ?_⟩
  · have := hle (ix4 b 0 y x)
    rw [hD] at this
    exact_mod_cast this
  · rcases (bits b y x).2 with h1 | h1
    · left
      rw [moved_apply d D hD, hD] at h1
      exact_mod_cast h1
    · right
      have e : smallest d = (μ : EReal) := hμ
      rw [e] at h1
      exact_mod_cast h1

end Cert.Disparity

end
-- ==== Proof.Equation.lean ====
/-
  The equation: with the precondition, the kernel's result and the reference's are equal at every pixel.
-/
module

public import proofs.«01_k».proof.Proof.KernelValue
public import proofs.«01_k».proof.Proof.Reference
public import proofs.«01_k».proof.Proof.Disparity

@[expose] public section

noncomputable section

namespace Cert.Equation

open Cert.KernelIdeal Idealize.ShloMosaic Idealize.ShloMosaic.ValueIdx Cert.Block Cert.Mix

/-- The kernel's constant is the real `log 1.414 / log 2`. -/
theorem rate_eq : rate = ((Real.log (707 / 500) * (Real.log 2)⁻¹ : ℝ) : EReal) :=
  IdealRules.named_const.ideal_named_scalar _ _ _ _ rfl

/-- So its weight of a disparity is the power of 1.414. -/
theorem weight_coe (d : ℝ) : weight (d : EReal) = ((base ^ d : ℝ) : EReal) := by
  unfold weight
  rw [rate_eq, ← EReal.coe_mul, Ideal.exp2_coe]
  congr 1
  show (2 : ℝ) ^ (d * (Real.log (707 / 500) * (Real.log 2)⁻¹)) = base ^ d
  have h2 : Real.log 2 ≠ 0 := (Real.log_pos (by norm_num)).ne'
  rw [Real.rpow_def_of_pos (by norm_num), Real.rpow_def_of_pos base_pos]
  unfold base
  congr 1
  field_simp

/-- The parts given and kept. -/
theorem given_coe (d : ℝ) : given (d : EReal) = ((give d : ℝ) : EReal) := by
  unfold given give
  rw [weight_coe, EReal.coe_mul]

/-- The weight that a block's pixel keeps is the real weight kept, for a real disparity. -/
theorem kept_coe (d : ℝ) : kept (d : EReal) = ((keep d : ℝ) : EReal) := by
  unfold kept
  rw [weight_coe, given_coe, ← EReal.coe_sub]
  congr 1
  unfold keep give
  ring

/-- The kernel's pixel formula is the mix. -/
theorem pixel_eq (a : Fin 512 → EReal) (d : Fin 512 → EReal) (D : Fin 512 → ℝ) (hd : ∀ x, d x = (D x : EReal))
    (x : Fin 512) : pixel a d x = mix a D x := by
  unfold pixel mix after
  by_cases h : x.val + 1 < 512
  · rw [dif_pos h, dif_pos h, dif_pos h]
    beta_reduce
    rw [hd, hd, given_coe, kept_coe]
    unfold blend
    rw [EReal.coe_add]
  · rw [dif_neg h, dif_neg h, dif_neg h, hd, kept_coe]
    unfold blend
    rw [zero_mul, add_zero, add_zero, add_zero]

/-- With the precondition the two results are one array. -/
theorem result_eq (im : FVec Ideal S4x3x512x512 .f32) (d : FVec Ideal S4x1x512x512 .f32)
    (h : Cert.Pre_unit_disparity.fn (F := Ideal) im d = fun _ => 1#1) :
    Cert.ReferenceIdeal.Read.val_main_v441 (F := Ideal) im d = KernelValue.result im d := by
  obtain ⟨D, μ, hD, hD0, hD1, hm, hμ, hle, hpre⟩ := Disparity.of_pre d im h
  funext i
  obtain ⟨b, k, y, x, rfl⟩ : ∃ (b : Fin 4) (k : Fin 3) (y x : Fin 512), i = (ix4 b k y x : S4x3x512x512.Idx) :=
    ⟨i 0, i 1, i 2, i 3, funext fun a => match a with
      | ⟨0, _⟩ => rfl
      | ⟨1, _⟩ => rfl
      | ⟨2, _⟩ => rfl
      | ⟨3, _⟩ => rfl⟩
  refine (Reference.result_apply im d D μ hD hD0 hD1 hm hμ hle hpre b k y x).trans ?_
  exact (pixel_eq _ _ (D b y) (hD b y) x).symm

end Cert.Equation

end
-- ==== Proof.lean ====
/-
  The proof of `Cert.Claim`: the frames of the three programs, the one named constant, and the equation of the kernel's
  result with the reference's, put together.
-/
module

public import proofs.«01_k».proof.Defs
public import proofs.«01_k».proof.Proof.Gen.Kernel.Frame
public import proofs.«01_k».proof.Proof.Gen.ReferenceIdeal.Run
public import proofs.«01_k».proof.Proof.Equation
public import Idealize.ShloMosaic.Lib.Quiescent
public import Idealize.ShloMosaic.Lib.Claim

@[expose] public section

noncomputable section

namespace Cert.Proof

open Idealize.ShloMosaic Idealize.ShloMosaic.TcCoe Idealize.SL.Sem Idealize.ShloMosaic.StableHlo

/-- The kernel, as it is written, runs and leaves its arguments and counters as they were. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- The same from arguments that meet the precondition. -/
theorem frame_ideal_pre : Cert.quiescent_KernelIdeal_pre_unit_disparity := fun m ρ _ => Cert.KernelIdeal.Gen.frame m ρ

/-- So does the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same from arguments that meet the precondition. -/
theorem frame_reference_pre : Cert.quiescent_ReferenceIdeal_pre_unit_disparity := fun m ρ _ =>
  frame_reference m ρ trivial

/-- The kernel's one named constant is the logarithm of 1.414 to the base two. -/
theorem preserves : Cert.preserves_Kernel_KernelIdeal :=
  IdealRules.named_const.statement Cert.KernelIdeal.κ "log2_base" .f32 0x3EFFE371#32
    (((Real.log (707 / 500)) * (Real.log 2)⁻¹ : ℝ) : EReal) rfl

/-- From arguments that agree and meet the precondition, the kernel and the reference end with one result array. -/
theorem algebraic : Cert.algebraic_KernelIdeal_ReferenceIdeal_pre_unit_disparity := by
  intro m ρ m' ρ' hpre hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v441_eq, launchContents_devRef, launchContents_devRef, (hagree c).1, (hagree c).2]
  exact Cert.Equation.result_eq _ _ (hpre c)

/-- All claims together. -/
theorem claim : Cert.Claim :=
  ⟨Cert.Kernel.Gen.facts, Cert.KernelIdeal.Gen.facts, Cert.ReferenceIdeal.Gen.facts, Cert.Pre_unit_disparity.Gen.facts,
    frame_kernel, frame_ideal, frame_ideal_pre, frame_reference, frame_reference_pre, preserves, algebraic⟩

end Cert.Proof

end
